-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mean" .f32 0x38D1B717#32 ((10000⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x10000x10000 : Shape := ⟨3, ![2, 10000, 10000]⟩
abbrev S_ : Shape := ⟨0, ![]⟩
abbrev S2x128x32 : Shape := ⟨3, ![2, 128, 32]⟩
abbrev S2x32 : Shape := ⟨2, ![2, 32]⟩
abbrev S32x16 : Shape := ⟨2, ![32, 16]⟩
abbrev S1x16 : Shape := ⟨2, ![1, 16]⟩
abbrev S1x10000x32 : Shape := ⟨3, ![1, 10000, 32]⟩
abbrev S2x10000x32 : Shape := ⟨3, ![2, 10000, 32]⟩
abbrev S4x200x10000 : Shape := ⟨3, ![4, 200, 10000]⟩
abbrev S4 : Shape := ⟨1, ![4]⟩
abbrev S1 : Shape := ⟨1, ![1]⟩
abbrev S1x200x10000 : Shape := ⟨3, ![1, 200, 10000]⟩
abbrev S200x10000 : Shape := ⟨2, ![200, 10000]⟩
abbrev S1x128x32 : Shape := ⟨3, ![1, 128, 32]⟩
abbrev S128x32 : Shape := ⟨2, ![128, 32]⟩
abbrev S10000x32 : Shape := ⟨2, ![10000, 32]⟩
abbrev S200x32 : Shape := ⟨2, ![200, 32]⟩
abbrev S1x32 : Shape := ⟨2, ![1, 32]⟩
abbrev S1x200x32 : Shape := ⟨3, ![1, 200, 32]⟩
abbrev S200x16 : Shape := ⟨2, ![200, 16]⟩
abbrev S1x200x16 : Shape := ⟨3, ![1, 200, 16]⟩
abbrev S1x1x1 : Shape := ⟨3, ![1, 1, 1]⟩

abbrev nBuf : Space → Nat
  | .hbm => 10
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S_, .i32⟩
  | .hbm, ⟨3, _⟩ => ⟨S2x128x32, .f32⟩
  | .hbm, ⟨4, _⟩ => ⟨S2x32, .f32⟩
  | .hbm, ⟨5, _⟩ => ⟨S32x16, .f32⟩
  | .hbm, ⟨6, _⟩ => ⟨S1x16, .f32⟩
  | .hbm, ⟨7, _⟩ => ⟨S1x16, .f32⟩
  | .hbm, ⟨8, _⟩ => ⟨S10000x128, .bf16⟩
  | .hbm, ⟨9, _⟩ => ⟨S1x10000x32, .f32⟩
  | .local _ .vmem, ⟨0, _⟩ => ⟨S10000x128, .bf16⟩
  | .local _ .vmem, ⟨1, _⟩ => ⟨S2x128x32, .f32⟩
  | .local _ .vmem, ⟨2, _⟩ => ⟨S2x32, .f32⟩
  | .local _ .vmem, ⟨3, _⟩ => ⟨S32x16, .f32⟩
  | .local _ .vmem, ⟨4, _⟩ => ⟨S1x16, .f32⟩
  | .local _ .vmem, ⟨5, _⟩ => ⟨S1x16, .f32⟩
  | .local _ .vmem, ⟨6, _⟩ => ⟨S1x10000x32, .f32⟩
  | .local _ .vmem, ⟨7, _⟩ => ⟨S2x10000x32, .bf16⟩
  | .local _ .vmem, ⟨8, _⟩ => ⟨S1x10000x32, .f32⟩
  | .local _ .vmem, ⟨9, _⟩ => ⟨S4x200x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 (c0_i32 : BitVec 32) (c0_i32_0 : BitVec 32) : Fin 3 → Nat :=
  let c50_i32 : BitVec 32 := 50#32
  let v0 : BitVec 32 := Scalar.divsi c0_i32 c50_i32
  let c50_i32_1 : BitVec 32 := 50#32
  let v1 : BitVec 32 := Scalar.remsi c0_i32_0 c50_i32_1
  let c200_i32 : BitVec 32 := 200#32
  let v2 : BitVec 32 := Scalar.muli v1 c200_i32
  let c0_i32_6 : BitVec 32 := 0#32
  ![v0.toNat, v2.toNat, 0]
def k0_off1_at (r : Fin 4) : BitVec 32 × BitVec 32 :=
  if r.val < 2 then
    if r.val < 1 then
      (0#32, 0#32)
    else
      (1#32, 1#32)
  else
    if r.val < 3 then
      (2#32, 2#32)
    else
      (3#32, 3#32)
@[reducible] def k0_t1_loop : Scf.Loop 32 :=
  let c0_i32_49 : BitVec 32 := 0#32
  let c100_i32 : BitVec 32 := 100#32
  let v54 : BitVec 32 := Scalar.addi c0_i32_49 c100_i32
  let c1_i32_50 : BitVec 32 := 1#32
  ⟨c0_i32_49, v54, c1_i32_50⟩
def k0_cond1 (k0_t1 : Fin k0_t1_loop.trips) : BitVec 1 :=
  let c0_i32_49 : BitVec 32 := 0#32
  let c1_i32_50 : BitVec 32 := 1#32
  let arg12 : BitVec 32 := Scf.iv c0_i32_49 c1_i32_50 k0_t1
  let c0_i32_64 : BitVec 32 := 0#32
  let v80 : BitVec 1 := Scalar.cmpi .sgt arg12 c0_i32_64
  let c1_i32_63 : BitVec 32 := 1#32
  let v78 : BitVec 32 := Scalar.subi arg12 c1_i32_63
  let c4_i32 : BitVec 32 := 4#32
  let v79 : BitVec 32 := Scalar.addi v78 c4_i32
  let c100_i32_65 : BitVec 32 := 100#32
  let v81 : BitVec 1 := Scalar.cmpi .slt v79 c100_i32_65
  let v82 : BitVec 1 := Scalar.andi v80 v81
  let v83 : BitVec 32 := Scalar.extui v82
  let c0_i32_66 : BitVec 32 := 0#32
  let v84 : BitVec 1 := Scalar.cmpi .ne v83 c0_i32_66
  v84

def k0_off2 (k0_t1 : Fin k0_t1_loop.trips) : Fin 1 → Nat :=
  let c0_i32_49 : BitVec 32 := 0#32
  let c1_i32_50 : BitVec 32 := 1#32
  let arg12 : BitVec 32 := Scf.iv c0_i32_49 c1_i32_50 k0_t1
  let c1_i32_100 : BitVec 32 := 1#32
  let v137 : BitVec 32 := Scalar.subi arg12 c1_i32_100
  let c4_i32_101 : BitVec 32 := 4#32
  let v138 : BitVec 32 := Scalar.remsi v137 c4_i32_101
  ![v138.toNat]
def k0_off3 (k0_t1 : Fin k0_t1_loop.trips) : Fin 3 → Nat :=
  let c0_i32_49 : BitVec 32 := 0#32
  let c1_i32_50 : BitVec 32 := 1#32
  let arg12 : BitVec 32 := Scf.iv c0_i32_49 c1_i32_50 k0_t1
  let c1_i32_100 : BitVec 32 := 1#32
  let v137 : BitVec 32 := Scalar.subi arg12 c1_i32_100
  let c4_i32_101 : BitVec 32 := 4#32
  let v138 : BitVec 32 := Scalar.remsi v137 c4_i32_101
  let c0_i32_105 : BitVec 32 := 0#32
  let c0_i32_106 : BitVec 32 := 0#32
  ![v138.toNat, 0, 0]
def k0_off4 (k0_t1 : Fin k0_t1_loop.trips) : Fin 3 → Nat :=
  let c0_i32_49 : BitVec 32 := 0#32
  let c1_i32_50 : BitVec 32 := 1#32
  let arg12 : BitVec 32 := Scf.iv c0_i32_49 c1_i32_50 k0_t1
  let c1_i32_63 : BitVec 32 := 1#32
  let v78 : BitVec 32 := Scalar.subi arg12 c1_i32_63
  let c4_i32 : BitVec 32 := 4#32
  let v79 : BitVec 32 := Scalar.addi v78 c4_i32
  let c50_i32_102 : BitVec 32 := 50#32
  let v139 : BitVec 32 := Scalar.divsi v79 c50_i32_102
  let c50_i32_103 : BitVec 32 := 50#32
  let v140 : BitVec 32 := Scalar.remsi v79 c50_i32_103
  let c200_i32_104 : BitVec 32 := 200#32
  let v141 : BitVec 32 := Scalar.muli v140 c200_i32_104
  let c0_i32_107 : BitVec 32 := 0#32
  ![v139.toNat, v141.toNat, 0]
def k0_off5 (k0_t1 : Fin k0_t1_loop.trips) : Fin 1 → Nat :=
  let c0_i32_49 : BitVec 32 := 0#32
  let c1_i32_50 : BitVec 32 := 1#32
  let arg12 : BitVec 32 := Scf.iv c0_i32_49 c1_i32_50 k0_t1
  let c4_i32_67 : BitVec 32 := 4#32
  let v85 : BitVec 32 := Scalar.remsi arg12 c4_i32_67
  ![v85.toNat]
def k0_off6 (k0_t1 : Fin k0_t1_loop.trips) : Fin 3 → Nat :=
  let c0_i32_49 : BitVec 32 := 0#32
  let c1_i32_50 : BitVec 32 := 1#32
  let arg12 : BitVec 32 := Scf.iv c0_i32_49 c1_i32_50 k0_t1
  let c4_i32_67 : BitVec 32 := 4#32
  let v85 : BitVec 32 := Scalar.remsi arg12 c4_i32_67
  let c0_i32_71 : BitVec 32 := 0#32
  let c0_i32_72 : BitVec 32 := 0#32
  ![v85.toNat, 0, 0]
def k0_off7 (k0_t1 : Fin k0_t1_loop.trips) : Fin 3 → Nat :=
  let c0_i32_49 : BitVec 32 := 0#32
  let c1_i32_50 : BitVec 32 := 1#32
  let arg12 : BitVec 32 := Scf.iv c0_i32_49 c1_i32_50 k0_t1
  let c50_i32_68 : BitVec 32 := 50#32
  let v86 : BitVec 32 := Scalar.divsi arg12 c50_i32_68
  let c50_i32_69 : BitVec 32 := 50#32
  let v87 : BitVec 32 := Scalar.remsi arg12 c50_i32_69
  let c200_i32_70 : BitVec 32 := 200#32
  let v88 : BitVec 32 := Scalar.muli v87 c200_i32_70
  let c0_i32_73 : BitVec 32 := 0#32
  ![v86.toNat, v88.toNat, 0]
def k0_off8 (k0_t1 : Fin k0_t1_loop.trips) : Fin 3 → Nat :=
  let c0_i32_49 : BitVec 32 := 0#32
  let c1_i32_50 : BitVec 32 := 1#32
  let arg12 : BitVec 32 := Scf.iv c0_i32_49 c1_i32_50 k0_t1
  let c4_i32_67 : BitVec 32 := 4#32
  let v85 : BitVec 32 := Scalar.remsi arg12 c4_i32_67
  let v96 : Index := Scalar.indexCast v85
  let c0_75 : Index := 0#32
  let c0_76 : Index := 0#32
  ![v96.toNat, 0, 0]
def k0_off9 (k0_t1 : Fin k0_t1_loop.trips) : Fin 3 → Nat :=
  let c0_i32_49 : BitVec 32 := 0#32
  let c1_i32_50 : BitVec 32 := 1#32
  let arg12 : BitVec 32 := Scf.iv c0_i32_49 c1_i32_50 k0_t1
  let c50_i32_74 : BitVec 32 := 50#32
  let v95 : BitVec 32 := Scalar.divsi arg12 c50_i32_74
  let v99 : Index := Scalar.indexCast v95
  let c0_77 : Index := 0#32
  let c0_78 : Index := 0#32
  ![v99.toNat, 0, 0]
def k0_off10 (k0_t1 : Fin k0_t1_loop.trips) : Fin 2 → Nat :=
  let c0_i32_49 : BitVec 32 := 0#32
  let c1_i32_50 : BitVec 32 := 1#32
  let arg12 : BitVec 32 := Scf.iv c0_i32_49 c1_i32_50 k0_t1
  let c50_i32_74 : BitVec 32 := 50#32
  let v95 : BitVec 32 := Scalar.divsi arg12 c50_i32_74
  let v103 : Index := Scalar.indexCast v95
  let c0_80 : Index := 0#32
  ![v103.toNat, 0]
def k0_cond2 (k0_t1 : Fin k0_t1_loop.trips) : BitVec 1 :=
  let c0_i32_49 : BitVec 32 := 0#32
  let c1_i32_50 : BitVec 32 := 1#32
  let arg12 : BitVec 32 := Scf.iv c0_i32_49 c1_i32_50 k0_t1
  let c50_i32_74 : BitVec 32 := 50#32
  let v95 : BitVec 32 := Scalar.divsi arg12 c50_i32_74
  let c1_i32_84 : BitVec 32 := 1#32
  let v112 : BitVec 1 := Scalar.cmpi .slt v95 c1_i32_84
  let v113 : BitVec 32 := Scalar.extui v112
  let c0_i32_85 : BitVec 32 := 0#32
  let v114 : BitVec 1 := Scalar.cmpi .ne v113 c0_i32_85
  v114

def k0_off11 (k0_t1 : Fin k0_t1_loop.trips) : Fin 3 → Nat :=
  let c0_i32_49 : BitVec 32 := 0#32
  let c1_i32_50 : BitVec 32 := 1#32
  let arg12 : BitVec 32 := Scf.iv c0_i32_49 c1_i32_50 k0_t1
  let c50_i32_74 : BitVec 32 := 50#32
  let v95 : BitVec 32 := Scalar.divsi arg12 c50_i32_74
  let v138 : Index := Scalar.indexCast v95
  let c50_i32_82 : BitVec 32 := 50#32
  let v109 : BitVec 32 := Scalar.muli v95 c50_i32_82
  let v110 : BitVec 32 := Scalar.subi arg12 v109
  let c200_i32_83 : BitVec 32 := 200#32
  let v111 : BitVec 32 := Scalar.muli v110 c200_i32_83
  let v139 : Index := Scalar.indexCast v111
  let c0_100 : Index := 0#32
  ![v138.toNat, v139.toNat, 0]
def k0_cond3 (k0_t1 : Fin k0_t1_loop.trips) : BitVec 1 :=
  let c0_i32_49 : BitVec 32 := 0#32
  let c1_i32_50 : BitVec 32 := 1#32
  let arg12 : BitVec 32 := Scf.iv c0_i32_49 c1_i32_50 k0_t1
  let c50_i32_74 : BitVec 32 := 50#32
  let v95 : BitVec 32 := Scalar.divsi arg12 c50_i32_74
  let c1_i32_86 : BitVec 32 := 1#32
  let v115 : BitVec 1 := Scalar.cmpi .eq v95 c1_i32_86
  let v116 : BitVec 32 := Scalar.extui v115
  let c0_i32_87 : BitVec 32 := 0#32
  let v117 : BitVec 1 := Scalar.cmpi .ne v116 c0_i32_87
  v117

def k0_off12 (k0_t1 : Fin k0_t1_loop.trips) : Fin 3 → Nat :=
  let c0_100 : Index := 0#32
  let c0_i32_49 : BitVec 32 := 0#32
  let c1_i32_50 : BitVec 32 := 1#32
  let arg12 : BitVec 32 := Scf.iv c0_i32_49 c1_i32_50 k0_t1
  let c50_i32_74 : BitVec 32 := 50#32
  let v95 : BitVec 32 := Scalar.divsi arg12 c50_i32_74
  let c50_i32_82 : BitVec 32 := 50#32
  let v109 : BitVec 32 := Scalar.muli v95 c50_i32_82
  let v110 : BitVec 32 := Scalar.subi arg12 v109
  let c200_i32_83 : BitVec 32 := 200#32
  let v111 : BitVec 32 := Scalar.muli v110 c200_i32_83
  let v137 : Index := Scalar.indexCast v111
  let c0_101 : Index := 0#32
  ![0, v137.toNat, 0]
abbrev stage0_0 : Fin 1 → Memref sig .tc .vmem S10000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x10000x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mean" => some ((10000⁻¹ : ℝ) : EReal)
  | _ => none
-- ==== ReferenceIdeal.lean ====
abbrev S10000x128 : Shape := ⟨2, ![10000, 128]⟩
abbrev S2x10000x10000 : Shape := ⟨3, ![2, 10000, 10000]⟩
abbrev S_ : Shape := ⟨0, ![]⟩
abbrev S2x128x32 : Shape := ⟨3, ![2, 128, 32]⟩
abbrev S2x32 : Shape := ⟨2, ![2, 32]⟩
abbrev S32x16 : Shape := ⟨2, ![32, 16]⟩
abbrev S1x16 : Shape := ⟨2, ![1, 16]⟩
abbrev S1x128x32 : Shape := ⟨3, ![1, 128, 32]⟩
abbrev S128x32 : Shape := ⟨2, ![128, 32]⟩
abbrev S10000x32 : Shape := ⟨2, ![10000, 32]⟩
abbrev S1x10000x10000 : Shape := ⟨3, ![1, 10000, 10000]⟩
abbrev S10000x10000 : Shape := ⟨2, ![10000, 10000]⟩
abbrev S1x32 : Shape := ⟨2, ![1, 32]⟩
abbrev S32 : Shape := ⟨1, ![32]⟩
abbrev S20000x32 : Shape := ⟨2, ![20000, 32]⟩
abbrev S20000x16 : Shape := ⟨2, ![20000, 16]⟩
abbrev S16x1 : Shape := ⟨2, ![16, 1]⟩
abbrev S20000x1 : Shape := ⟨2, ![20000, 1]⟩
abbrev S2x10000 : Shape := ⟨2, ![2, 10000]⟩
abbrev S2 : Shape := ⟨1, ![2]⟩
abbrev S2x1 : Shape := ⟨2, ![2, 1]⟩
abbrev S1 : Shape := ⟨1, ![1]⟩
abbrev S1x1 : Shape := ⟨2, ![1, 1]⟩
abbrev S2x1x1 : Shape := ⟨3, ![2, 1, 1]⟩
abbrev S2x10000x32 : Shape := ⟨3, ![2, 10000, 32]⟩
abbrev S1x10000x32 : Shape := ⟨3, ![1, 10000, 32]⟩

abbrev nBuf : Space → Nat
  | .hbm => 71
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S_, .i32⟩
  | .hbm, ⟨3, _⟩ => ⟨S2x128x32, .f32⟩
  | .hbm, ⟨4, _⟩ => ⟨S2x32, .f32⟩
  | .hbm, ⟨5, _⟩ => ⟨S32x16, .f32⟩
  | .hbm, ⟨6, _⟩ => ⟨S1x16, .f32⟩
  | .hbm, ⟨7, _⟩ => ⟨S1x16, .f32⟩
  | .hbm, ⟨8, _⟩ => ⟨S1x128x32, .f32⟩
  | .hbm, ⟨9, _⟩ => ⟨S128x32, .f32⟩
  | .hbm, ⟨10, _⟩ => ⟨S10000x32, .f32⟩
  | .hbm, ⟨11, _⟩ => ⟨S1x10000x10000, .f32⟩
  | .hbm, ⟨12, _⟩ => ⟨S10000x10000, .f32⟩
  | .hbm, ⟨13, _⟩ => ⟨S10000x32, .f32⟩
  | .hbm, ⟨14, _⟩ => ⟨S1x32, .f32⟩
  | .hbm, ⟨15, _⟩ => ⟨S32, .f32⟩
  | .hbm, ⟨16, _⟩ => ⟨S1x32, .f32⟩
  | .hbm, ⟨17, _⟩ => ⟨S10000x32, .f32⟩
  | .hbm, ⟨18, _⟩ => ⟨S10000x32, .f32⟩
  | .hbm, ⟨19, _⟩ => ⟨S_, .f32⟩
  | .hbm, ⟨20, _⟩ => ⟨S10000x32, .f32⟩
  | .hbm, ⟨21, _⟩ => ⟨S10000x32, .f32⟩
  | .hbm, ⟨22, _⟩ => ⟨S1x128x32, .f32⟩
  | .hbm, ⟨23, _⟩ => ⟨S128x32, .f32⟩
  | .hbm, ⟨24, _⟩ => ⟨S10000x32, .f32⟩
  | .hbm, ⟨25, _⟩ => ⟨S1x10000x10000, .f32⟩
  | .hbm, ⟨26, _⟩ => ⟨S10000x10000, .f32⟩
  | .hbm, ⟨27, _⟩ => ⟨S10000x32, .f32⟩
  | .hbm, ⟨28, _⟩ => ⟨S1x32, .f32⟩
  | .hbm, ⟨29, _⟩ => ⟨S32, .f32⟩
  | .hbm, ⟨30, _⟩ => ⟨S1x32, .f32⟩
  | .hbm, ⟨31, _⟩ => ⟨S10000x32, .f32⟩
  | .hbm, ⟨32, _⟩ => ⟨S10000x32, .f32⟩
  | .hbm, ⟨33, _⟩ => ⟨S_, .f32⟩
  | .hbm, ⟨34, _⟩ => ⟨S10000x32, .f32⟩
  | .hbm, ⟨35, _⟩ => ⟨S10000x32, .f32⟩
  | .hbm, ⟨36, _⟩ => ⟨S20000x32, .f32⟩
  | .hbm, ⟨37, _⟩ => ⟨S20000x16, .f32⟩
  | .hbm, ⟨38, _⟩ => ⟨S20000x16, .f32⟩
  | .hbm, ⟨39, _⟩ => ⟨S20000x16, .f32⟩
  | .hbm, ⟨40, _⟩ => ⟨S20000x16, .f32⟩
  | .hbm, ⟨41, _⟩ => ⟨S16x1, .f32⟩
  | .hbm, ⟨42, _⟩ => ⟨S20000x1, .f32⟩
  | .hbm, ⟨43, _⟩ => ⟨S2x10000, .f32⟩
  | .hbm, ⟨44, _⟩ => ⟨S_, .f32⟩
  | .hbm, ⟨45, _⟩ => ⟨S2, .f32⟩
  | .hbm, ⟨46, _⟩ => ⟨S2x1, .f32⟩
  | .hbm, ⟨47, _⟩ => ⟨S_, .f32⟩
  | .hbm, ⟨48, _⟩ => ⟨S2x1, .f32⟩
  | .hbm, ⟨49, _⟩ => ⟨S2x1, .f32⟩
  | .hbm, ⟨50, _⟩ => ⟨S_, .f32⟩
  | .hbm, ⟨51, _⟩ => ⟨S1, .f32⟩
  | .hbm, ⟨52, _⟩ => ⟨S_, .f32⟩
  | .hbm, ⟨53, _⟩ => ⟨S1, .f32⟩
  | .hbm, ⟨54, _⟩ => ⟨S1, .f32⟩
  | .hbm, ⟨55, _⟩ => ⟨S1x1, .f32⟩
  | .hbm, ⟨56, _⟩ => ⟨S2x1, .f32⟩
  | .hbm, ⟨57, _⟩ => ⟨S2x1, .f32⟩
  | .hbm, ⟨58, _⟩ => ⟨S2x1, .f32⟩
  | .hbm, ⟨59, _⟩ => ⟨S_, .f32⟩
  | .hbm, ⟨60, _⟩ => ⟨S1, .f32⟩
  | .hbm, ⟨61, _⟩ => ⟨S1x1, .f32⟩
  | .hbm, ⟨62, _⟩ => ⟨S2x1, .f32⟩
  | .hbm, ⟨63, _⟩ => ⟨S2x1, .f32⟩
  | .hbm, ⟨64, _⟩ => ⟨S2x1x1, .f32⟩
  | .hbm, ⟨65, _⟩ => ⟨S2x10000x32, .f32⟩
  | .hbm, ⟨66, _⟩ => ⟨S2x10000x32, .f32⟩
  | .hbm, ⟨67, _⟩ => ⟨S2x10000x32, .f32⟩
  | .hbm, ⟨68, _⟩ => ⟨S_, .f32⟩
  | .hbm, ⟨69, _⟩ => ⟨S10000x32, .f32⟩
  | .hbm, ⟨70, _⟩ => ⟨S1x10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_cst : Ref sig .tc := ⟨.hbm, 33, rfl⟩
abbrev main_call1_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_cst_0 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proof.Ideal.Ring.lean ====
/-
  The kernel's ring of four row blocks: names and geometry.

  The two 10000 × 10000 adjacency matrices are read in 100 blocks of 200 rows. A buffer of four slots, each with a DMA
  semaphore, takes the blocks round-robin: block `b` travels in slot `b % 4`. Here are the names of a block, a slot and
  a semaphore (`grp`, `rslot`, `csm`), the equations that say the program's own slices are those names, and what it
  means for a block to be at home, a slot to be free and a block to be in flight.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Ring
public import Idealize.ShloMosaic.Lib.Transfers
public import Idealize.ShloMosaic.Lib.Tactic

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The adjacency array and the four-slot buffer, whole. -/
abbrev aM : Memref sig .tc .hbm S2x10000x10000 .f32 := Memref.whole main_arg1
abbrev bufM : Memref sig .tc .vmem S4x200x10000 .f32 := Memref.whole cc0_scratch2

/-- Where block `b` starts: matrix `b / 50`, row `200 (b % 50)`. -/
abbrev grpOff (b : Fin 100) : Fin 3 → Nat := ![b.val / 50, 200 * (b.val % 50), 0]
theorem grpOff_inb (b : Fin 100) : ∀ a, grpOff b a + S1x200x10000.size a ≤ S2x10000x10000.size a := by
  have := b.isLt; intro a; fin_cases a
  · show b.val / 50 + 1 ≤ 2; omega
  · show 200 * (b.val % 50) + 200 ≤ 10000; omega
  · show 0 + 10000 ≤ 10000; omega
abbrev slotOff (s : Fin 4) : Fin 3 → Nat := ![s.val, 0, 0]
theorem slotOff_inb (s : Fin 4) : ∀ a, slotOff s a + S1x200x10000.size a ≤ S4x200x10000.size a := by
  have := s.isLt; intro a; fin_cases a
  · show s.val + 1 ≤ 4; omega
  · show 0 + 200 ≤ 200; omega
  · show 0 + 10000 ≤ 10000; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Block `b` of the adjacency array. -/
def grp (b : Fin 100) : Memref sig .tc .hbm S200x10000 .f32 :=
  (aM.slice (Rect.unit (s := S2x10000x10000) (grpOff b) S1x200x10000.size (grpOff_inb b)) (fun _ => rfl)).squeeze S200x10000 squeezes_S1x200x10000_S200x10000
/-- Slot `s` of the buffer. -/
def rslot (s : Fin 4) : Memref sig .tc .vmem S200x10000 .f32 :=
  (bufM.slice (Rect.unit (s := S4x200x10000) (slotOff s) S1x200x10000.size (slotOff_inb s)) (fun _ => rfl)).squeeze S200x10000 squeezes_S1x200x10000_S200x10000
/-- Slot `s`'s semaphore. -/
def csm (s : Fin 4) : DmaSems sig S_ := (cc0_scratch3.slice (Rect.unit (s := S4) (semOff s) S1.size (semOff_inb s))).squeeze S_ squeezes_S1_S_

instance (s : Fin 4) : ClosedOff (slotOff s) := ⟨slotOff s, rfl⟩
instance (b : Fin 100) : ClosedOff (grpOff b) := ⟨grpOff b, rfl⟩

/-! ## The program's offsets and conditions at trip `k` -/

theorem trips_eq : k0_t1_loop.trips = 100 := by decide
theorem trip_lt (k : Fin k0_t1_loop.trips) : k.val < 100 := Nat.lt_of_lt_of_eq k.isLt trips_eq

/-- A trip issues a transfer when it is not the first and three more blocks remain. -/
theorem cond1_iff : ∀ k : Fin k0_t1_loop.trips, k0_cond1 k = 1#1 ↔ 0 < k.val ∧ k.val + 3 < 100 := by decide +kernel
/-- It stores into the first scratch when its block is of the first matrix, -/
theorem cond2_iff : ∀ k : Fin k0_t1_loop.trips, k0_cond2 k = 1#1 ↔ k.val < 50 := by decide +kernel
/-- into the result when of the second. -/
theorem cond3_iff : ∀ k : Fin k0_t1_loop.trips, k0_cond3 k = 1#1 ↔ 50 ≤ k.val := by decide +kernel

theorem off2_eq : ∀ k : Fin k0_t1_loop.trips, 0 < k.val → k0_off2 k = semOff (Ring.sl 4 (k.val + 3)) := by decide +kernel
theorem off3_eq : ∀ k : Fin k0_t1_loop.trips, 0 < k.val → k0_off3 k = slotOff (Ring.sl 4 (k.val + 3)) := by decide +kernel
theorem off4_eq (k : Fin k0_t1_loop.trips) (hk : k.val + 3 < 100) : k0_off4 k = grpOff (Ring.bk 100 (k.val + 3)) := by
  rw [k0_off4_eq]; unfold grpOff; rw [Ring.bk_val hk]
theorem off5_eq : ∀ k : Fin k0_t1_loop.trips, k0_off5 k = semOff (Ring.sl 4 k.val) := by decide +kernel
theorem off6_eq : ∀ k : Fin k0_t1_loop.trips, k0_off6 k = slotOff (Ring.sl 4 k.val) := by decide +kernel
theorem off7_eq (k : Fin k0_t1_loop.trips) : k0_off7 k = grpOff (Ring.bk 100 k.val) := by
  rw [k0_off7_eq]; unfold grpOff; rw [Ring.bk_val (trip_lt k)]
theorem off8_eq : ∀ k : Fin k0_t1_loop.trips, k0_off8 k = slotOff (Ring.sl 4 k.val) := by decide +kernel
theorem off11_eq : ∀ k : Fin k0_t1_loop.trips, k0_off11 k = ![k.val / 50, 200 * (k.val % 50), 0] := by decide +kernel
theorem off12_eq : ∀ k : Fin k0_t1_loop.trips, k0_off12 k = ![0, 200 * (k.val % 50), 0] := by decide +kernel

instance (k : Fin k0_t1_loop.trips) : ClosedOff (k0_off6 k) := ⟨slotOff (Ring.sl 4 k.val), off6_eq k⟩
instance (k : Fin k0_t1_loop.trips) : ClosedOff (k0_off8 k) := ⟨slotOff (Ring.sl 4 k.val), off8_eq k⟩
instance (k : Fin k0_t1_loop.trips) : ClosedOff (k0_off11 k) := ⟨![k.val / 50, 200 * (k.val % 50), 0], off11_eq k⟩
instance (k : Fin k0_t1_loop.trips) : ClosedOff (k0_off12 k) := ⟨![0, 200 * (k.val % 50), 0], off12_eq k⟩

theorem csm_congr {off : Fin 1 → Nat} {s : Fin 4} (e : off = semOff s) (hh) :
    (cc0_scratch3.slice (Rect.unit (s := S4) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 4} (e : off = slotOff s) (hh hs) :
    (bufM.slice (Rect.unit (s := S4x200x10000) off S1x200x10000.size hh) hs).squeeze S200x10000 squeezes_S1x200x10000_S200x10000 = rslot s :=
  congrArg (fun M : Memref sig .tc .vmem S1x200x10000 .f32 => M.squeeze S200x10000 squeezes_S1x200x10000_S200x10000) (Memref.slice_unit_congr _ e _ _ _ _)
theorem grp_congr {off : Fin 3 → Nat} {b : Fin 100} (e : off = grpOff b) (hh hs) :
    (aM.slice (Rect.unit (s := S2x10000x10000) off S1x200x10000.size hh) hs).squeeze S200x10000 squeezes_S1x200x10000_S200x10000 = grp b :=
  congrArg (fun M : Memref sig .tc .hbm S1x200x10000 .f32 => M.squeeze S200x10000 squeezes_S1x200x10000_S200x10000) (Memref.slice_unit_congr _ e _ _ _ _)

/-! The slices before the loop: blocks, slots and semaphores 0 to 3. -/
@[sl_canon] theorem semL0 (hh) : (cc0_scratch3.slice (Rect.unit (s := S4) ![0] S1.size hh)).squeeze S_ squeezes_S1_S_ = csm 0 := csm_congr (by decide) _
@[sl_canon] theorem semL1 (hh) : (cc0_scratch3.slice (Rect.unit (s := S4) ![1] S1.size hh)).squeeze S_ squeezes_S1_S_ = csm 1 := csm_congr (by decide) _
@[sl_canon] theorem semL2 (hh) : (cc0_scratch3.slice (Rect.unit (s := S4) ![2] S1.size hh)).squeeze S_ squeezes_S1_S_ = csm 2 := csm_congr (by decide) _
@[sl_canon] theorem semL3 (hh) : (cc0_scratch3.slice (Rect.unit (s := S4) ![3] S1.size hh)).squeeze S_ squeezes_S1_S_ = csm 3 := csm_congr (by decide) _
@[sl_canon] theorem slotL0 (hh hs) : (bufM.slice (Rect.unit (s := S4x200x10000) ![0, 0, 0] S1x200x10000.size hh) hs).squeeze S200x10000 squeezes_S1x200x10000_S200x10000 = rslot 0 := rslot_congr (by decide) _ _
@[sl_canon] theorem slotL1 (hh hs) : (bufM.slice (Rect.unit (s := S4x200x10000) ![1, 0, 0] S1x200x10000.size hh) hs).squeeze S200x10000 squeezes_S1x200x10000_S200x10000 = rslot 1 := rslot_congr (by decide) _ _
@[sl_canon] theorem slotL2 (hh hs) : (bufM.slice (Rect.unit (s := S4x200x10000) ![2, 0, 0] S1x200x10000.size hh) hs).squeeze S200x10000 squeezes_S1x200x10000_S200x10000 = rslot 2 := rslot_congr (by decide) _ _
@[sl_canon] theorem slotL3 (hh hs) : (bufM.slice (Rect.unit (s := S4x200x10000) ![3, 0, 0] S1x200x10000.size hh) hs).squeeze S200x10000 squeezes_S1x200x10000_S200x10000 = rslot 3 := rslot_congr (by decide) _ _
@[sl_canon] theorem grpL0 (hh hs) : (aM.slice (Rect.unit (s := S2x10000x10000) (k0_off1 0#32 0#32) S1x200x10000.size hh) hs).squeeze S200x10000 squeezes_S1x200x10000_S200x10000 = grp 0 := grp_congr (by decide) _ _
@[sl_canon] theorem grpL1 (hh hs) : (aM.slice (Rect.unit (s := S2x10000x10000) (k0_off1 1#32 1#32) S1x200x10000.size hh) hs).squeeze S200x10000 squeezes_S1x200x10000_S200x10000 = grp 1 := grp_congr (by decide) _ _
@[sl_canon] theorem grpL2 (hh hs) : (aM.slice (Rect.unit (s := S2x10000x10000) (k0_off1 2#32 2#32) S1x200x10000.size hh) hs).squeeze S200x10000 squeezes_S1x200x10000_S200x10000 = grp 2 := grp_congr (by decide) _ _
@[sl_canon] theorem grpL3 (hh hs) : (aM.slice (Rect.unit (s := S2x10000x10000) (k0_off1 3#32 3#32) S1x200x10000.size hh) hs).squeeze S200x10000 squeezes_S1x200x10000_S200x10000 = grp 3 := grp_congr (by decide) _ _

/-! The slices of trip `k`: the slot and block issued, the slot and block awaited. -/
@[sl_canon] theorem semI (k : Fin k0_t1_loop.trips) (h0 : 0 < k.val) (hh) : (cc0_scratch3.slice (Rect.unit (s := S4) (k0_off2 k) S1.size hh)).squeeze S_ squeezes_S1_S_ = csm (Ring.sl 4 (k.val + 3)) := csm_congr (off2_eq k h0) _
@[sl_canon] theorem slotI (k : Fin k0_t1_loop.trips) (h0 : 0 < k.val) (hh hs) : (bufM.slice (Rect.unit (s := S4x200x10000) (k0_off3 k) S1x200x10000.size hh) hs).squeeze S200x10000 squeezes_S1x200x10000_S200x10000 = rslot (Ring.sl 4 (k.val + 3)) := rslot_congr (off3_eq k h0) _ _
@[sl_canon] theorem grpI (k : Fin k0_t1_loop.trips) (hk : k.val + 3 < 100) (hh hs) : (aM.slice (Rect.unit (s := S2x10000x10000) (k0_off4 k) S1x200x10000.size hh) hs).squeeze S200x10000 squeezes_S1x200x10000_S200x10000 = grp (Ring.bk 100 (k.val + 3)) := grp_congr (off4_eq k hk) _ _
@[sl_canon] theorem semW (k : Fin k0_t1_loop.trips) (hh) : (cc0_scratch3.slice (Rect.unit (s := S4) (k0_off5 k) S1.size hh)).squeeze S_ squeezes_S1_S_ = csm (Ring.sl 4 k.val) := csm_congr (off5_eq k) _
@[sl_canon] theorem slotW (k : Fin k0_t1_loop.trips) (hh hs) : (bufM.slice (Rect.unit (s := S4x200x10000) (k0_off6 k) S1x200x10000.size hh) hs).squeeze S200x10000 squeezes_S1x200x10000_S200x10000 = rslot (Ring.sl 4 k.val) := rslot_congr (off6_eq k) _ _
@[sl_canon] theorem grpW (k : Fin k0_t1_loop.trips) (hh hs) : (aM.slice (Rect.unit (s := S2x10000x10000) (k0_off7 k) S1x200x10000.size hh) hs).squeeze S200x10000 squeezes_S1x200x10000_S200x10000 = grp (Ring.bk 100 k.val) := grp_congr (off7_eq k) _ _

/-! ## A block at home, a free slot, a block in flight -/

section Pieces
variable (c : Dev nD) (XA : Buf (Elt F) (aM.view.loc (c : Thread nD τ)))

/-- Slot `s`'s semaphore at zero. -/
abbrev cellP (s : Fin 4) : sProp 𝕄 := semVal ((c : Thread nD τ), SemLoc.dma (csm s).sem) 0
/-- Slot `s` held at contents `f`. -/
abbrev slotP (s : Fin 4) (f : Buf (Elt F) ((rslot s).view.loc (c : Thread nD τ))) : sProp 𝕄 :=
  (rslot s).view.loc (c : Thread nD τ) ↦[(rslot s).view.set]{fullShare} f
/-- Block `b` held on its elements at the array's contents. -/
abbrev homeP (b : Fin 100) : sProp 𝕄 := (grp b).view.loc (c : Thread nD τ) ↦[(grp b).view.set]{fullShare} XA
/-- Block `b`'s numbers as a slot receives them. -/
abbrev payload (b : Fin 100) : S200x10000.Idx → Elt F .f32 := ReadAs.same.apply ((grp b).view.read (Elt F) XA)
/-- What block `b`'s transfer leaves in slot `s` over prior contents `f`. -/
abbrev landed (s : Fin 4) (b : Fin 100) (f : Buf (Elt F) ((rslot s).view.loc (c : Thread nD τ))) : Buf (Elt F) ((rslot s).view.loc (c : Thread nD τ)) :=
  (rslot s).view.writes (Elt F) f [⟨Rect.whole S200x10000, payload c XA b⟩]
/-- What a block's transfer adds to its semaphore. -/
abbrev NN : ℕ := 252800
/-- Block `b` in flight into slot `s`, issued over contents `f`. -/
abbrev flightP (s : Fin 4) (b : Fin 100) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

end Pieces

end Cert.Proof.KI

end
-- ==== Proof.Ideal.Part.lean ====
/-
  The first part of one trip: issue the transfer of a later block if one is due, await this trip's block, and compute
  its 200 rows.

  The state of the ring before trip `k` is one predicate per block (in flight, or at home) and one per slot (free, or
  used by a block in flight), so a trip is the same statement at every `k`.
-/
module

public import proofs.«01_k».proof.Proof.Ideal.Ring

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

def hM : Memref sig .tc .vmem S2x10000x32 .bf16 := Memref.whole cc0_scratch0
def uM : Memref sig .tc .vmem S1x10000x32 .f32 := Memref.whole cc0_scratch1
def xM : Memref sig .tc .vmem S10000x128 .bf16 := Memref.whole cc0_stg0_0
def wM : Memref sig .tc .vmem S2x128x32 .f32 := Memref.whole cc0_stg1_0
def bM : Memref sig .tc .vmem S2x32 .f32 := Memref.whole cc0_stg2_0
def w2M : Memref sig .tc .vmem S32x16 .f32 := Memref.whole cc0_stg3_0
def b2M : Memref sig .tc .vmem S1x16 .f32 := Memref.whole cc0_stg4_0
def qM : Memref sig .tc .vmem S1x16 .f32 := Memref.whole cc0_stg5_0
def oM : Memref sig .tc .vmem S1x10000x32 .f32 := Memref.whole cc0_stg6_0

/-! ## Which blocks are in flight, which slots are free -/

/-- Block `b` is in flight before trip `k`. -/
abbrev inFl (k : ℕ) (b : Fin 100) : Prop := k ≤ b.val ∧ b.val < max 4 (k + 3)
/-- Slot `s` is free before trip `k`: no block in flight uses it. -/
abbrev isFree (k : ℕ) (s : Fin 4) : Prop := ¬ (k + (s.val + 4 - k % 4) % 4 < max 4 (k + 3) ∧ k + (s.val + 4 - k % 4) % 4 < 100)

theorem inFl_here {k : ℕ} (hk : k < 100) : inFl k (Ring.bk 100 k) := by unfold inFl; rw [Ring.bk_val hk]; omega
theorem inFl_here_next {k : ℕ} (hk : k < 100) : ¬ inFl (k + 1) (Ring.bk 100 k) := by unfold inFl; rw [Ring.bk_val hk]; omega
theorem inFl_far {k : ℕ} (h0 : 0 < k) (hk : k + 3 < 100) : ¬ inFl k (Ring.bk 100 (k + 3)) := by unfold inFl; rw [Ring.bk_val hk]; omega
theorem inFl_far_next {k : ℕ} (hk : k + 3 < 100) : inFl (k + 1) (Ring.bk 100 (k + 3)) := by unfold inFl; rw [Ring.bk_val hk]; omega
theorem inFl_other {k : ℕ} (b : Fin 100) (h : b.val ≠ k) (h3 : b.val = k + 3 → k = 0) : (inFl (k + 1) b ↔ inFl k b) := by unfold inFl; omega
theorem free_here : ∀ k : Fin 100, ¬ isFree k.val (Ring.sl 4 k.val) := by decide +kernel
theorem free_here_next : ∀ k : Fin 100, isFree (k.val + 1) (Ring.sl 4 k.val) := by decide +kernel
theorem free_far : ∀ k : Fin 100, 0 < k.val → isFree k.val (Ring.sl 4 (k.val + 3)) := by decide +kernel
theorem free_far_next : ∀ k : Fin 100, k.val + 3 < 100 → ¬ isFree (k.val + 1) (Ring.sl 4 (k.val + 3)) := by decide +kernel
theorem free_other : ∀ (k : Fin 100) (s : Fin 4), s ≠ Ring.sl 4 k.val → (s = Ring.sl 4 (k.val + 3) → k.val = 0 ∨ 100 ≤ k.val + 3) →
    (isFree (k.val + 1) s ↔ isFree k.val s) := by decide +kernel
theorem sl_ne : ∀ k : Fin 100, Ring.sl 4 (k.val + 3) ≠ Ring.sl 4 k.val := by decide +kernel

/-! ## The ring before a trip -/

section RingState
variable (c : Dev nD) (XA : Buf (Elt F) (aM.view.loc (c : Thread nD τ)))

/-- Block `b` before trip `k`. -/
def blockSt (k : ℕ) (b : Fin 100) : sProp 𝕄 := if inFl k b then iprop(∃ f, flightP c XA (Ring.sl 4 b.val) b f) else homeP c XA b
/-- Slot `s` before trip `k`. -/
def slotSt (k : ℕ) (s : Fin 4) : sProp 𝕄 := if isFree k s then iprop((∃ f, slotP (F := F) c s f) ∗ cellP (F := F) c s) else iprop(emp)
/-- All blocks and slots before trip `k`. -/
def ringSt (k : ℕ) : sProp 𝕄 := iprop(bigSep Finset.univ (blockSt c XA k) ∗ bigSep Finset.univ (slotSt (F := F) c k))

theorem block_here {k : ℕ} (hk : k < 100) :
    blockSt c XA k (Ring.bk 100 k) = iprop(∃ f, flightP c XA (Ring.sl 4 k) (Ring.bk 100 k) f) := by
  unfold blockSt; rw [if_pos (inFl_here hk), Ring.bk_val hk]
theorem block_here_next {k : ℕ} (hk : k < 100) : blockSt c XA (k + 1) (Ring.bk 100 k) = homeP c XA (Ring.bk 100 k) := by
  unfold blockSt; rw [if_neg (inFl_here_next hk)]
theorem block_far {k : ℕ} (h0 : 0 < k) (h3 : k + 3 < 100) : blockSt c XA k (Ring.bk 100 (k + 3)) = homeP c XA (Ring.bk 100 (k + 3)) := by
  unfold blockSt; rw [if_neg (inFl_far h0 h3)]
theorem block_far_next {k : ℕ} (h3 : k + 3 < 100) :
    blockSt c XA (k + 1) (Ring.bk 100 (k + 3)) = iprop(∃ f, flightP c XA (Ring.sl 4 (k + 3)) (Ring.bk 100 (k + 3)) f) := by
  unfold blockSt; rw [if_pos (inFl_far_next h3), Ring.bk_val h3]
theorem block_other {k : ℕ} (b : Fin 100) (h : b.val ≠ k) (h3 : b.val = k + 3 → k = 0) : blockSt c XA (k + 1) b = blockSt c XA k b := by
  unfold blockSt; exact if_congr (inFl_other b h h3) rfl rfl
theorem slot_here {k : ℕ} (hk : k < 100) : slotSt (F := F) c k (Ring.sl 4 k) = iprop(emp) := by
  unfold slotSt; rw [if_neg (free_here ⟨k, hk⟩)]
theorem slot_here_next {k : ℕ} (hk : k < 100) :
    slotSt (F := F) c (k + 1) (Ring.sl 4 k) = iprop((∃ f, slotP (F := F) c (Ring.sl 4 k) f) ∗ cellP (F := F) c (Ring.sl 4 k)) := by
  unfold slotSt; rw [if_pos (free_here_next ⟨k, hk⟩)]
theorem slot_far {k : ℕ} (hk : k < 100) (h0 : 0 < k) :
    slotSt (F := F) c k (Ring.sl 4 (k + 3)) = iprop((∃ f, slotP (F := F) c (Ring.sl 4 (k + 3)) f) ∗ cellP (F := F) c (Ring.sl 4 (k + 3))) := by
  unfold slotSt; rw [if_pos (free_far ⟨k, hk⟩ h0)]
theorem slot_far_next {k : ℕ} (h3 : k + 3 < 100) : slotSt (F := F) c (k + 1) (Ring.sl 4 (k + 3)) = iprop(emp) := by
  unfold slotSt; rw [if_neg (free_far_next ⟨k, by omega⟩ h3)]
theorem slot_other {k : ℕ} (hk : k < 100) (s : Fin 4) (h : s ≠ Ring.sl 4 k) (h3 : s = Ring.sl 4 (k + 3) → k = 0 ∨ 100 ≤ k + 3) :
    slotSt (F := F) c (k + 1) s = slotSt (F := F) c k s := by
  unfold slotSt; exact if_congr (free_other ⟨k, hk⟩ s h h3) rfl rfl

end RingState

/-- One member of a separated family, and the way back to a family that differs from it there only. -/
theorem take_one {M : Type _} [URA M] {I : Type} [Fintype I] [DecidableEq I] (Φ Ψ : I → sProp M) (a : I) (h : ∀ b, b ≠ a → Ψ b = Φ b) :
    bigSep Finset.univ Φ ⊢ iprop(Φ a ∗ (Ψ a -∗ bigSep Finset.univ Ψ)) := by
  have e : bigSep (Finset.univ.erase a) Φ = bigSep (Finset.univ.erase a) Ψ := bigSep_congr fun b hb => (h b (Finset.ne_of_mem_erase hb)).symm
  have h1 : bigSep Finset.univ Φ ⊢ iprop(Φ a ∗ bigSep (Finset.univ.erase a) Ψ) := Entails.of_eq ((bigSep_erase (Finset.mem_univ a)).trans (by rw [e]; rfl))
  have h2 : iprop(Ψ a ∗ bigSep (Finset.univ.erase a) Ψ) ⊢ bigSep Finset.univ Ψ := Entails.of_eq (bigSep_erase (Finset.mem_univ a)).symm
  refine h1.trans ?_
  iintro ⟨Ha, Hr⟩
  isplitl [Ha]; · iexact Ha
  iintro H
  iapply h2
  isplitl [H]; · iexact H
  iexact Hr

/-- The same for two members. -/
theorem take_two {M : Type _} [URA M] {I : Type} [Fintype I] [DecidableEq I] (Φ Ψ : I → sProp M) (a a' : I) (hne : a' ≠ a)
    (h : ∀ b, b ≠ a → b ≠ a' → Ψ b = Φ b) :
    bigSep Finset.univ Φ ⊢ iprop(Φ a ∗ Φ a' ∗ (iprop(Ψ a ∗ Ψ a') -∗ bigSep Finset.univ Ψ)) := by
  have ma : a' ∈ (Finset.univ.erase a : Finset I) := Finset.mem_erase.2 ⟨hne, Finset.mem_univ _⟩
  have e : bigSep ((Finset.univ.erase a).erase a') Φ = bigSep ((Finset.univ.erase a).erase a') Ψ := bigSep_congr fun b hb =>
    (h b (Finset.ne_of_mem_erase (Finset.mem_of_mem_erase hb)) (Finset.ne_of_mem_erase hb)).symm
  have h1 : bigSep Finset.univ Φ ⊢ iprop(Φ a ∗ Φ a' ∗ bigSep ((Finset.univ.erase a).erase a') Ψ) := Entails.of_eq (by
    rw [bigSep_erase (Finset.mem_univ a), bigSep_erase ma, e]; rfl)
  have h2 : iprop(Ψ a ∗ Ψ a' ∗ bigSep ((Finset.univ.erase a).erase a') Ψ) ⊢ bigSep Finset.univ Ψ := Entails.of_eq (by
    rw [bigSep_erase (Finset.mem_univ a) (Φ := Ψ), bigSep_erase ma (Φ := Ψ)]; rfl)
  refine h1.trans ?_
  iintro ⟨Ha, Hb, Hr⟩
  isplitl [Ha]; · iexact Ha
  isplitl [Hb]; · iexact Hb
  iintro ⟨H1, H2⟩
  iapply h2
  isplitl [H1]; · iexact H1
  isplitl [H2]; · iexact H2
  iexact Hr

/-! ## What a trip computes -/

section Values
variable (c : Dev nD) (XA : Buf (Elt F) (aM.view.loc (c : Thread nD τ)))
  (Xh : Buf (Elt F) (hM.view.loc (c : Thread nD τ))) (Xb : Buf (Elt F) (bM.view.loc (c : Thread nD τ)))

/-- Block `b` as an array of rows. -/
def blkV (b : Fin 100) : Vec F S1x200x10000 .f32 :=
  aM.view.readAt (Elt F) (Rect.unit (s := S2x10000x10000) (grpOff b) S1x200x10000.size (grpOff_inb b)).toLoadRect XA
/-- The projected features of the matrix trip `k` reads from. -/
def hV (k : Fin k0_t1_loop.trips) : Vec F S1x10000x32 .bf16 :=
  hM.view.readAt (Elt F) (Rect.unit (s := S2x10000x32) (k0_off9 k) S1x10000x32.size (k0_off9_inb k)).toLoadRect Xh
/-- The bias row of that matrix. -/
def bV (k : Fin k0_t1_loop.trips) : Vec F S1x32 .f32 :=
  bM.view.readAt (Elt F) (Rect.unit (s := S2x32) (k0_off10 k) S1x32.size (k0_off10_inb k)).toLoadRect Xb
/-- The 200 rows trip `k` computes. -/
def rowsV (k : Fin k0_t1_loop.trips) : FVec F S200x32 .f32 := k0_pay7 (blkV c XA (Ring.bk 100 k.val)) (hV c Xh k) (bV c Xb k)
/-- Which matrix trip `k` reads, as the program computes it. -/
def pathV (k : Fin k0_t1_loop.trips) : BitVec 32 := Scalar.divsi (Scf.iv 0#32 1#32 k.val) 50#32

/-- The row, within its matrix, trip `k`'s block starts at, as the program computes it. -/
def wV (k : Fin k0_t1_loop.trips) : BitVec 32 :=
  Scalar.muli (Scalar.subi (Scf.iv 0#32 1#32 k.val) (Scalar.muli (pathV k) 50#32)) 200#32

/-- A slot the transfer of block `b` has filled reads as the block. -/
theorem slot_read (s : Fin 4) (b : Fin 100) (f) {off : Fin 3 → Nat} (e : off = slotOff s) (hh) :
    shapeCast S200x10000 (bufM.view.readAt (Elt F) (Rect.unit (s := S4x200x10000) off S1x200x10000.size hh).toLoadRect (landed c XA s b f)) shapeCasts_S1x200x10000_S200x10000
      = shapeCast S200x10000 (blkV c XA b) shapeCasts_S1x200x10000_S200x10000 := by
  subst e
  have h1 : (rslot s).view.read (Elt F) (landed c XA s b f) = payload c XA b := by
    unfold landed
    exact View.read_writes_whole (rslot s).view f (payload c XA b)
  exact h1

/-- What a trip computes depends on its block only through the block's rows. -/
theorem pay7_congr (v v' : Vec F S1x200x10000 .f32) (h : Vec F S1x10000x32 .bf16) (b : Vec F S1x32 .f32)
    (e : shapeCast S200x10000 v shapeCasts_S1x200x10000_S200x10000 = shapeCast S200x10000 v' shapeCasts_S1x200x10000_S200x10000) : k0_pay7 v h b = k0_pay7 v' h b := by
  unfold k0_pay7; rw [e]

end Values

/-- A program that has returned. -/
theorem wp_done {α : Type} (c : Dev nD) {a a' : α} (h : a = a') (Q : α → sProp 𝕄) :
    Q a' ⊢ wp frame (wpE (defs₀ (F := F)) Variants.none (c : Thread nD τ) none) Set.univ (Prog.ret a) Q := by
  subst h
  rw [wp_ret]
  iintro H
  imodintro
  iexact H

/-- The values the first part returns. -/
theorem part_ret (c : Dev nD) (XA : Buf (Elt F) (aM.view.loc (c : Thread nD τ)))
    (Xh : Buf (Elt F) (hM.view.loc (c : Thread nD τ))) (Xb : Buf (Elt F) (bM.view.loc (c : Thread nD τ))) (k : Fin k0_t1_loop.trips)
    (v : Vec F S1x200x10000 .f32) (w : BitVec 32)
    (e : shapeCast S200x10000 v shapeCasts_S1x200x10000_S200x10000 = shapeCast S200x10000 (blkV c XA (Ring.bk 100 k.val)) shapeCasts_S1x200x10000_S200x10000) :
    (⟨pathV k, k0_pay7 v (hV c Xh k) (bV c Xb k), w, 1#32⟩ : Σ' (v95 : BitVec 32) (v108 : FVec F S200x32 .f32) (v111 : BitVec 32), BitVec 32)
      = ⟨pathV k, rowsV c XA Xh Xb k, w, 1#32⟩ := by
  rw [pay7_congr _ _ _ _ e]; rfl

abbrev part1G (k : Fin k0_t1_loop.trips) :=
  k0_part1 (F := F) xM (Memref.isWhole_whole _) aM (Memref.isWhole_whole _) wM (Memref.isWhole_whole _) bM (Memref.isWhole_whole _) w2M (Memref.isWhole_whole _) b2M (Memref.isWhole_whole _) qM (Memref.isWhole_whole _) oM (Memref.isWhole_whole _) hM (Memref.isWhole_whole _) uM (Memref.isWhole_whole _) bufM (Memref.isWhole_whole _) cc0_scratch3 0#32 1#32 k

/-- The first part at a trip that issues a transfer. -/
theorem part1_issue (c : Dev nD) (XA : Buf (Elt F) (aM.view.loc (c : Thread nD τ)))
    (Xh : Buf (Elt F) (hM.view.loc (c : Thread nD τ))) (Xb : Buf (Elt F) (bM.view.loc (c : Thread nD τ)))
    (k : Fin k0_t1_loop.trips) (h0 : 0 < k.val) (h3 : k.val + 3 < 100) (W) (f0 f1) (Q) :
    iprop((hM.view.loc (c : Thread nD τ) ↦[hM.view.set]{fullShare} Xh)
      ∗ (bM.view.loc (c : Thread nD τ) ↦[bM.view.set]{fullShare} Xb)
      ∗ owes (c : Thread nD τ) 0 W
      ∗ slotP c (Ring.sl 4 (k.val + 3)) f0 ∗ cellP (F := F) c (Ring.sl 4 (k.val + 3)) ∗ homeP c XA (Ring.bk 100 (k.val + 3))
      ∗ flightP c XA (Ring.sl 4 k.val) (Ring.bk 100 k.val) f1
      ∗ (∀ (w : BitVec 32), iprop((hM.view.loc (c : Thread nD τ) ↦[hM.view.set]{fullShare} Xh)
          ∗ (bM.view.loc (c : Thread nD τ) ↦[bM.view.set]{fullShare} Xb)
          ∗ (∃ W', owes (c : Thread nD τ) 0 W')
          ∗ flightP c XA (Ring.sl 4 (k.val + 3)) (Ring.bk 100 (k.val + 3)) f0
          ∗ (∃ f, slotP (F := F) c (Ring.sl 4 k.val) f) ∗ cellP (F := F) c (Ring.sl 4 k.val) ∗ homeP c XA (Ring.bk 100 k.val))
          -∗ Q ⟨pathV k, rowsV c XA Xh Xb k, w, 1#32⟩))
    ⊢ wp frame (wpE (defs₀ (F := F)) Variants.none (c : Thread nD τ) none) Set.univ (part1G k) Q := by
  have hc1 := (cond1_iff k).2 ⟨h0, h3⟩
  iintro ⟨Hh, Hb, HW, Hs, Hc, Hg, HF, HQ⟩
  dsimp only [part1G]
  sl_unfold [k0_part1]
  sl_exec
  iapply (wp_done c (a' := ⟨pathV k, rowsV c XA Xh Xb k, wV k, 1#32⟩) (part_ret c XA Xh Xb k _ _ (slot_read c XA _ _ _ (off8_eq k) _)) Q)
  iapply HQ $$ %(wV k)
  isplitl [Hh]; · iexact Hh
  isplitl [Hb]; · iexact Hb
  isplitl [HW]; · iexists _; iexact HW
  isplitl [Hc]; · iexact Hc
  isplitl [HF_dst]; · iexists _; iexact HF_dst
  isplitl [HF]; · iexact HF
  iexact HF_src

/-- The first part at a trip that issues none. -/
theorem part1_still (c : Dev nD) (XA : Buf (Elt F) (aM.view.loc (c : Thread nD τ)))
    (Xh : Buf (Elt F) (hM.view.loc (c : Thread nD τ))) (Xb : Buf (Elt F) (bM.view.loc (c : Thread nD τ)))
    (k : Fin k0_t1_loop.trips) (hno : ¬ (0 < k.val ∧ k.val + 3 < 100)) (W) (f1) (Q) :
    iprop((hM.view.loc (c : Thread nD τ) ↦[hM.view.set]{fullShare} Xh)
      ∗ (bM.view.loc (c : Thread nD τ) ↦[bM.view.set]{fullShare} Xb)
      ∗ owes (c : Thread nD τ) 0 W
      ∗ flightP c XA (Ring.sl 4 k.val) (Ring.bk 100 k.val) f1
      ∗ (∀ (w : BitVec 32), iprop((hM.view.loc (c : Thread nD τ) ↦[hM.view.set]{fullShare} Xh)
          ∗ (bM.view.loc (c : Thread nD τ) ↦[bM.view.set]{fullShare} Xb)
          ∗ (∃ W', owes (c : Thread nD τ) 0 W')
          ∗ (∃ f, slotP (F := F) c (Ring.sl 4 k.val) f) ∗ cellP (F := F) c (Ring.sl 4 k.val) ∗ homeP c XA (Ring.bk 100 k.val))
          -∗ Q ⟨pathV k, rowsV c XA Xh Xb k, w, 1#32⟩))
    ⊢ wp frame (wpE (defs₀ (F := F)) Variants.none (c : Thread nD τ) none) Set.univ (part1G k) Q := by
  have hc1 : ¬ k0_cond1 k = 1#1 := fun h => hno ((cond1_iff k).1 h)
  iintro ⟨Hh, Hb, HW, HF, HQ⟩
  dsimp only [part1G]
  sl_unfold [k0_part1]
  sl_exec
  iapply (wp_done c (a' := ⟨pathV k, rowsV c XA Xh Xb k, wV k, 1#32⟩) (part_ret c XA Xh Xb k _ _ (slot_read c XA _ _ _ (off8_eq k) _)) Q)
  iapply HQ $$ %(wV k)
  isplitl [Hh]; · iexact Hh
  isplitl [Hb]; · iexact Hb
  isplitl [HW]; · iexists _; iexact HW
  isplitl [HF_dst]; · iexists _; iexact HF_dst
  isplitl [HF]; · iexact HF
  iexact HF_src

/-- The first part of any trip: the ring moves on by one block, and the trip's rows are returned. -/
theorem part1_run (c : Dev nD) (XA : Buf (Elt F) (aM.view.loc (c : Thread nD τ)))
    (Xh : Buf (Elt F) (hM.view.loc (c : Thread nD τ))) (Xb : Buf (Elt F) (bM.view.loc (c : Thread nD τ)))
    (k : Fin k0_t1_loop.trips) (W) (Q) :
    iprop((hM.view.loc (c : Thread nD τ) ↦[hM.view.set]{fullShare} Xh)
      ∗ (bM.view.loc (c : Thread nD τ) ↦[bM.view.set]{fullShare} Xb)
      ∗ owes (c : Thread nD τ) 0 W
      ∗ ringSt c XA k.val
      ∗ (∀ (w : BitVec 32), iprop((hM.view.loc (c : Thread nD τ) ↦[hM.view.set]{fullShare} Xh)
          ∗ (bM.view.loc (c : Thread nD τ) ↦[bM.view.set]{fullShare} Xb)
          ∗ (∃ W', owes (c : Thread nD τ) 0 W')
          ∗ ringSt c XA (k.val + 1))
          -∗ Q ⟨pathV k, rowsV c XA Xh Xb k, w, 1#32⟩))
    ⊢ wp frame (wpE (defs₀ (F := F)) Variants.none (c : Thread nD τ) none) Set.univ (part1G k) Q := by
  have hk := trip_lt k
  have bh := block_here c XA hk
  have sh := slot_here_next (F := F) c hk
  have bn := block_here_next c XA hk
  have s1 := slot_here (F := F) c hk
  unfold ringSt
  by_cases hi : 0 < k.val ∧ k.val + 3 < 100
  · obtain ⟨h0, h3⟩ := hi
    have bf := block_far c XA h0 h3
    have bfn := block_far_next c XA h3
    have sf := slot_far (F := F) c hk h0
    have sfn := slot_far_next (F := F) c h3
    have tb := take_two (blockSt c XA k.val) (blockSt c XA (k.val + 1)) (Ring.bk 100 k.val) (Ring.bk 100 (k.val + 3))
      (fun h => by have := congrArg Fin.val h; rw [Ring.bk_val hk, Ring.bk_val h3] at this; omega)
      fun b h1 h2 => block_other c XA b (fun h => h1 (Fin.ext (by rw [Ring.bk_val hk]; exact h)))
        fun h => absurd (Fin.ext (by rw [Ring.bk_val h3]; exact h)) h2
    have ts := take_two (slotSt (F := F) c k.val) (slotSt (F := F) c (k.val + 1)) (Ring.sl 4 k.val) (Ring.sl 4 (k.val + 3))
      (sl_ne ⟨k.val, hk⟩) fun s h1 h2 => slot_other c hk s h1 fun h => absurd h h2
    rw [bh, bf, bn, bfn] at tb
    rw [s1, sf, sh, sfn] at ts
    iintro ⟨Hh, Hb, HW, ⟨HB, HS⟩, HQ⟩
    ihave HB := tb $$ HB
    icases HB with ⟨⟨%f1, HF⟩, Hg, HB⟩
    ihave HS := ts $$ HS
    icases HS with ⟨-, ⟨⟨%f0, Hs⟩, Hc⟩, HS⟩
    iapply (part1_issue c XA Xh Xb k h0 h3 W f0 f1 Q)
    isplitl [Hh]; · iexact Hh
    isplitl [Hb]; · iexact Hb
    isplitl [HW]; · iexact HW
    isplitl [Hs]; · iexact Hs
    isplitl [Hc]; · iexact Hc
    isplitl [Hg]; · iexact Hg
    isplitl [HF]; · iexact HF
    iintro %w ⟨Hh, Hb, HW, HF, Hs, Hc, Hg⟩
    iapply HQ $$ %w
    isplitl [Hh]; · iexact Hh
    isplitl [Hb]; · iexact Hb
    isplitl [HW]; · iexact HW
    isplitl [HB HF Hg]
    · iapply HB
      isplitl [Hg]; · iexact Hg
      iexists f0; iexact HF
    · iapply HS
      isplitl [Hs Hc]
      · isplitl [Hs]; · iexact Hs
        iexact Hc
      · itrivial
  · have tb := take_one (blockSt c XA k.val) (blockSt c XA (k.val + 1)) (Ring.bk 100 k.val)
      fun b h1 => block_other c XA b (fun h => h1 (Fin.ext (by rw [Ring.bk_val hk]; exact h)))
        fun h => by have := b.isLt; omega
    have ts := take_one (slotSt (F := F) c k.val) (slotSt (F := F) c (k.val + 1)) (Ring.sl 4 k.val)
      fun s h1 => slot_other c hk s h1 fun h => by omega
    rw [bh, bn] at tb
    rw [s1, sh] at ts
    iintro ⟨Hh, Hb, HW, ⟨HB, HS⟩, HQ⟩
    ihave HB := tb $$ HB
    icases HB with ⟨⟨%f1, HF⟩, HB⟩
    ihave HS := ts $$ HS
    icases HS with ⟨-, HS⟩
    iapply (part1_still c XA Xh Xb k hi W f1 Q)
    isplitl [Hh]; · iexact Hh
    isplitl [Hb]; · iexact Hb
    isplitl [HW]; · iexact HW
    isplitl [HF]; · iexact HF
    iintro %w ⟨Hh, Hb, HW, Hs, Hc, Hg⟩
    iapply HQ $$ %w
    isplitl [Hh]; · iexact Hh
    isplitl [Hb]; · iexact Hb
    isplitl [HW]; · iexact HW
    isplitl [HB Hg]
    · iapply HB
      iexact Hg
    · iapply HS
      isplitl [Hs]; · iexact Hs
      iexact Hc

end Cert.Proof.KI

end
-- ==== Proof.Ideal.Split.lean ====
/-
  The ring's two ends: the whole arrays taken apart into blocks and slots before the first trip, and put together again
  after the last.
-/
module

public import proofs.«01_k».proof.Proof.Ideal.Part

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The elements of block `b`, and of slot `s`. -/
abbrev blkSet (b : Fin 100) : Finset S2x10000x10000.Idx := (Rect.unit (s := S2x10000x10000) (grpOff b) S1x200x10000.size (grpOff_inb b)).set
abbrev slotSet (s : Fin 4) : Finset S4x200x10000.Idx := (Rect.unit (s := S4x200x10000) (slotOff s) S1x200x10000.size (slotOff_inb s)).set

theorem grp_set (b : Fin 100) : (grp b : Memref sig .tc .hbm _ _).view.set = blkSet b := (View.set_reshape _ _).trans (View.set_slice_whole _ _)
theorem rslot_set (s : Fin 4) : (rslot s : Memref sig .tc .vmem _ _).view.set = slotSet s := (View.set_reshape _ _).trans (View.set_slice_whole _ _)

/-- An element is of block `b` when its matrix and its row say so. -/
theorem mem_blkSet (b : Fin 100) (y : S2x10000x10000.Idx) : y ∈ blkSet b ↔ 50 * (y 0).val + (y 1).val / 200 = b.val := by
  rw [Rect.mem_set_unit]
  have h0 : (y 0).val < 2 := (y 0).isLt
  have h1 : (y 1).val < 10000 := (y 1).isLt
  have h2 : (y 2).val < 10000 := (y 2).isLt
  have hb := b.isLt
  constructor
  · intro H
    have a0 : b.val / 50 ≤ (y 0).val ∧ (y 0).val < b.val / 50 + 1 := H 0
    have a1 : 200 * (b.val % 50) ≤ (y 1).val ∧ (y 1).val < 200 * (b.val % 50) + 200 := H 1
    omega
  · intro H i; fin_cases i
    · show b.val / 50 ≤ (y 0).val ∧ (y 0).val < b.val / 50 + 1; omega
    · show 200 * (b.val % 50) ≤ (y 1).val ∧ (y 1).val < 200 * (b.val % 50) + 200; omega
    · show 0 ≤ (y 2).val ∧ (y 2).val < 0 + 10000; omega
/-- An element is of slot `s` when its first coordinate is. -/
theorem mem_slotSet (s : Fin 4) (y : S4x200x10000.Idx) : y ∈ slotSet s ↔ (y 0).val = s.val := by
  rw [Rect.mem_set_unit]
  have h1 : (y 1).val < 200 := (y 1).isLt
  have h2 : (y 2).val < 10000 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 200; omega
    · show 0 ≤ (y 2).val ∧ (y 2).val < 0 + 10000; omega

theorem blkSet_disjoint : ∀ b b' : Fin 100, b ≠ b' → Disjoint (blkSet b) (blkSet b') := by
  intro b b' hne; rw [Finset.disjoint_left]; intro y hy hy'; rw [mem_blkSet] at hy hy'; exact hne (Fin.ext (hy.symm.trans hy'))
theorem blkSet_cover : (Finset.univ : Finset (Fin 100)).biUnion blkSet = Finset.univ := by
  ext y; simp only [Finset.mem_biUnion, Finset.mem_univ, true_and, iff_true]
  have h0 : (y 0).val < 2 := (y 0).isLt
  have h1 : (y 1).val < 10000 := (y 1).isLt
  exact ⟨⟨50 * (y 0).val + (y 1).val / 200, by omega⟩, by rw [mem_blkSet]⟩
theorem slotSet_disjoint : ∀ s s' : Fin 4, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 4)).biUnion slotSet = Finset.univ := by
  ext y; simp only [Finset.mem_biUnion, Finset.mem_univ, true_and, iff_true]
  exact ⟨⟨(y 0).val, (y 0).isLt⟩, by rw [mem_slotSet]⟩

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

section Ends
variable (c : Dev nD) (XA : Buf (Elt F) (aM.view.loc (c : Thread nD τ)))

/-- The adjacency array whole is its 100 blocks at home. -/
theorem array_eq :
    (((c : Thread nD τ).loc main_arg1) ↦{fullShare} XA : sProp 𝕄) = bigSep Finset.univ (homeP c XA) := by
  rw [Ring.pointsTo_blocks (ℓ := (c : Thread nD τ).loc main_arg1) blkSet blkSet_disjoint blkSet_cover]
  exact bigSep_congr fun b _ => by rw [← grp_set]; rfl

theorem slotP_eq (s : Fin 4) (f) : slotP (F := F) c s f = (((c : Thread nD τ).loc cc0_scratch2) ↦[slotSet s]{fullShare} f : sProp 𝕄) :=
  congrArg (fun S => (_ ↦[S]{fullShare} f : sProp 𝕄)) (rslot_set s)

/-- The buffer whole gives its four slots, -/
theorem buf_split :
    iprop(∃ f : Buf (Elt F) ((c : Thread nD τ).loc cc0_scratch2), ((c : Thread nD τ).loc cc0_scratch2) ↦{fullShare} f)
      ⊢ (bigSep Finset.univ (fun s : Fin 4 => iprop(∃ f, slotP (F := F) c s f)) : sProp 𝕄) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch2) slotSet slotSet_disjoint slotSet_cover f).trans (bigSep_fin4 _))) $$ H
  irw [bigSep_fin4]
  icases H2 with ⟨H0, H1, H2, H3⟩
  isplitl [H0]
  · iexists f; iapply (Entails.of_eq (slotP_eq c 0 f).symm); iexact H0
  isplitl [H1]
  · iexists f; iapply (Entails.of_eq (slotP_eq c 1 f).symm); iexact H1
  isplitl [H2]
  · iexists f; iapply (Entails.of_eq (slotP_eq c 2 f).symm); iexact H2
  · iexists f; iapply (Entails.of_eq (slotP_eq c 3 f).symm); iexact H3

/-- and the four slots give it back. -/
theorem buf_join :
    (bigSep Finset.univ (fun s : Fin 4 => iprop(∃ f, slotP (F := F) c s f)) : sProp 𝕄)
      ⊢ iprop(∃ f : Buf (Elt F) ((c : Thread nD τ).loc cc0_scratch2), ((c : Thread nD τ).loc cc0_scratch2) ↦{fullShare} f) := by
  have e : (fun s : Fin 4 => (iprop(∃ f, slotP (F := F) c s f) : sProp 𝕄))
      = fun s => iprop(∃ f : Buf (Elt F) ((c : Thread nD τ).loc cc0_scratch2), ((c : Thread nD τ).loc cc0_scratch2) ↦[slotSet s]{fullShare} f) := by
    funext s; exact congrArg (fun Φ : _ → sProp 𝕄 => iprop(∃ f, Φ f)) (funext fun f => slotP_eq c s f)
  rw [e]
  iintro H
  icases (Entails.of_eq (bigSep_fin4 _)) $$ H with ⟨⟨%f0, H0⟩, H1, H2, H3⟩
  iapply (Ring.pointsTo_blocks_join_exists (ℓ := (c : Thread nD τ).loc cc0_scratch2) slotSet slotSet_disjoint slotSet_cover f0)
  irw [bigSep_fin4]
  isplitl [H0]; · iexists f0; iexact H0
  isplitl [H1]; · iexact H1
  isplitl [H2]; · iexact H2
  iexact H3

/-- Blocks 0 to 3 apart from the rest. -/
theorem homes_first (Φ : Fin 100 → sProp 𝕄) :
    bigSep Finset.univ Φ = iprop(Φ 0 ∗ Φ 1 ∗ Φ 2 ∗ Φ 3 ∗ bigSep (Ring.homeSet 4 0) Φ) := by
  have e : (Finset.univ : Finset (Fin 100)) = insert 0 (insert 1 (insert 2 (insert 3 (Ring.homeSet (NB := 100) 4 0)))) := by
    ext b; simp only [Finset.mem_univ, Finset.mem_insert, Ring.mem_homeSet, true_iff, Fin.ext_iff]; have := b.isLt
    show b.val = 0 ∨ b.val = 1 ∨ b.val = 2 ∨ b.val = 3 ∨ _
    omega
  rw [e, bigSep_insert (by decide +kernel), bigSep_insert (by decide +kernel), bigSep_insert (by decide +kernel), bigSep_insert (by decide +kernel)]; rfl

/-- With blocks 0 to 3 in flight and the others at home the ring is as before trip 0. -/
theorem ring_start (f0 f1 f2 f3) :
    iprop(flightP c XA 0 0 f0 ∗ flightP c XA 1 1 f1 ∗ flightP c XA 2 2 f2 ∗ flightP c XA 3 3 f3 ∗ bigSep (Ring.homeSet 4 0) (homeP c XA))
      ⊢ ringSt c XA 0 := by
  have e : bigSep (Ring.homeSet 4 0) (homeP c XA) = bigSep (Ring.homeSet 4 0) (blockSt c XA 0) := bigSep_congr fun b hb => by
    unfold blockSt
    rw [if_neg]
    rw [Ring.mem_homeSet] at hb; unfold inFl; omega
  have g (b : Fin 100) (s : Fin 4) (hs : Ring.sl 4 b.val = s) (hb : b.val < 4) : blockSt c XA 0 b = iprop(∃ f, flightP c XA s b f) := by
    unfold blockSt; rw [if_pos ⟨Nat.zero_le _, by omega⟩, hs]
  have es : bigSep Finset.univ (slotSt (F := F) c 0) = (iprop(emp ∗ emp ∗ emp ∗ emp) : sProp 𝕄) := by
    rw [bigSep_fin4]; unfold slotSt
    rw [if_neg (by decide), if_neg (by decide), if_neg (by decide), if_neg (by decide)]
  unfold ringSt
  rw [e, homes_first (blockSt c XA 0), g 0 0 (by decide) (by decide), g 1 1 (by decide) (by decide), g 2 2 (by decide) (by decide), g 3 3 (by decide) (by decide), es]
  iintro ⟨H0, H1, H2, H3, HR⟩
  isplitl
  · isplitl [H0]; · iexists _; iexact H0
    isplitl [H1]; · iexists _; iexact H1
    isplitl [H2]; · iexists _; iexact H2
    isplitl [H3]; · iexists _; iexact H3
    iexact HR
  isplitl; · iempintro
  isplitl; · iempintro
  isplitl; · iempintro
  iempintro

/-- After the last trip every block is at home and every slot free. -/
theorem ring_end :
    ringSt c XA 100 ⊢ iprop((((c : Thread nD τ).loc main_arg1) ↦{fullShare} XA)
      ∗ (∃ f : Buf (Elt F) ((c : Thread nD τ).loc cc0_scratch2), ((c : Thread nD τ).loc cc0_scratch2) ↦{fullShare} f)
      ∗ cellP (F := F) c 0 ∗ cellP (F := F) c 1 ∗ cellP (F := F) c 2 ∗ cellP (F := F) c 3) := by
  have e : bigSep Finset.univ (blockSt c XA 100) = (((c : Thread nD τ).loc main_arg1) ↦{fullShare} XA : sProp 𝕄) := by
    rw [array_eq]
    exact bigSep_congr fun b _ => by unfold blockSt; rw [if_neg]; have := b.isLt; unfold inFl; omega
  have g (s : Fin 4) : slotSt (F := F) c 100 s = iprop((∃ f, slotP (F := F) c s f) ∗ cellP (F := F) c s) := by
    unfold slotSt; rw [if_pos (by revert s; decide)]
  unfold ringSt
  rw [e, bigSep_fin4, g, g, g, g]
  iintro ⟨HA, ⟨S0, C0⟩, ⟨S1, C1⟩, ⟨S2, C2⟩, ⟨S3, C3⟩⟩
  isplitl [HA]; · iexact HA
  isplitl [S0 S1 S2 S3]
  · iapply (buf_join c)
    irw [bigSep_fin4]
    isplitl [S0]; · iexact S0
    isplitl [S1]; · iexact S1
    isplitl [S2]; · iexact S2
    iexact S3
  isplitl [C0]; · iexact C0
  isplitl [C1]; · iexact C1
  isplitl [C2]; · iexact C2
  iexact C3

end Ends

end Cert.Proof.KI

end
-- ==== Proof.Ideal.Trip.lean ====
/-
  One trip of the loop.

  Trip `k` stores its 200 rows into the first scratch (matrix 0) or into the result (matrix 1) and adds the rows' score
  to the running sum of its matrix. The invariant names what each array holds by its row.
-/
module

public import proofs.«01_k».proof.Proof.Ideal.Part
public import Idealize.ShloMosaic.Lib.ValueLayout
public import Idealize.ShloMosaic.Lib.WritesUnit
public import Idealize.ShloMosaic.Lib.VecWindow

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ## What the arrays hold before a trip -/

/-- Trip number `n`. -/
def tk (n : ℕ) : Fin k0_t1_loop.trips := ⟨n % 100, Nat.lt_of_lt_of_eq (Nat.mod_lt _ (by decide)) trips_eq.symm⟩
theorem tk_val (k : Fin k0_t1_loop.trips) : tk k.val = k := Fin.ext (Nat.mod_eq_of_lt (trip_lt k))

section State
variable (c : Dev nD) (XA : Buf (Elt F) (aM.view.loc (c : Thread nD τ)))
  (Xh : Buf (Elt F) (hM.view.loc (c : Thread nD τ))) (Xb : Buf (Elt F) (bM.view.loc (c : Thread nD τ)))
  (W2 : Vec F S32x16 .f32) (B2 Q2 : Vec F S1x16 .f32)

/-- All the rows of matrix `p`: row `r` is row `r % 200` of the block of trip `50 p + r / 200`. -/
def allRows (p : ℕ) : S1x10000x32.Idx → F .f32 := fun y =>
  rowsV c XA Xh Xb (tk (50 * p + (y 1).val / 200)) (ValueIdx.ix2 (⟨(y 1).val % 200, Nat.mod_lt _ (by decide)⟩ : Fin 200) (y 2))

/-- The rows of matrix `p` below row `n` are in place. -/
def Held (p n : ℕ) (v : S1x10000x32.Idx → F .f32) : Prop := ∀ y : S1x10000x32.Idx, (y 1).val < n → v y = allRows c XA Xh Xb p y

/-- The two running sums before trip `n`. -/
def sums : ℕ → F .f32 × F .f32
  | 0 => (Scalar.ofBits .f32 0x00000000#32, Scalar.ofBits .f32 0x00000000#32)
  | n + 1 => (k0_pay4 (sums n).1 (pathV (tk n)) (rowsV c XA Xh Xb (tk n)) W2 B2 Q2, k0_pay5 (sums n).2 (pathV (tk n)) (rowsV c XA Xh Xb (tk n)) W2 B2 Q2)

end State

/-- What the loop keeps, before trip `n`. -/
def tripInv (c : Dev nD) (XA : Buf (Elt F) (aM.view.loc (c : Thread nD τ)))
    (Xh : Buf (Elt F) (hM.view.loc (c : Thread nD τ))) (Xb : Buf (Elt F) (bM.view.loc (c : Thread nD τ)))
    (X2 : Buf (Elt F) (w2M.view.loc (c : Thread nD τ))) (Y2 : Buf (Elt F) (b2M.view.loc (c : Thread nD τ))) (Z2 : Buf (Elt F) (qM.view.loc (c : Thread nD τ)))
    (n : ℕ) (acc : F .f32 × F .f32) : sProp 𝕄 :=
  iprop(⌜acc = sums c XA Xh Xb (w2M.view.read (Elt F) X2) (b2M.view.read (Elt F) Y2) (qM.view.read (Elt F) Z2) n⌝
    ∗ (hM.view.loc (c : Thread nD τ) ↦[hM.view.set]{fullShare} Xh)
    ∗ (bM.view.loc (c : Thread nD τ) ↦[bM.view.set]{fullShare} Xb)
    ∗ (w2M.view.loc (c : Thread nD τ) ↦[w2M.view.set]{fullShare} X2)
    ∗ (b2M.view.loc (c : Thread nD τ) ↦[b2M.view.set]{fullShare} Y2)
    ∗ (qM.view.loc (c : Thread nD τ) ↦[qM.view.set]{fullShare} Z2)
    ∗ (∃ f : Buf (Elt F) (uM.view.loc (c : Thread nD τ)), ⌜Held c XA Xh Xb 0 (200 * n) (uM.view.read (Elt F) f)⌝ ∗ (uM.view.loc (c : Thread nD τ) ↦[uM.view.set]{fullShare} f))
    ∗ (∃ f : Buf (Elt F) (oM.view.loc (c : Thread nD τ)), ⌜Held c XA Xh Xb 1 (200 * (n - 50)) (oM.view.read (Elt F) f)⌝ ∗ (oM.view.loc (c : Thread nD τ) ↦[oM.view.set]{fullShare} f))
    ∗ (∃ W, owes (c : Thread nD τ) 0 W)
    ∗ ringSt c XA n)

abbrev tripG (k : Fin k0_t1_loop.trips) (acc : F .f32 × F .f32) :=
  k0_t1_body (F := F) xM (Memref.isWhole_whole _) aM (Memref.isWhole_whole _) wM (Memref.isWhole_whole _) bM (Memref.isWhole_whole _) w2M (Memref.isWhole_whole _) b2M (Memref.isWhole_whole _) qM (Memref.isWhole_whole _) oM (Memref.isWhole_whole _) hM (Memref.isWhole_whole _) uM (Memref.isWhole_whole _) bufM (Memref.isWhole_whole _) cc0_scratch3 0#32 k acc

/-- A store of trip `k`'s rows at its place puts them there and leaves the rows below alone. -/
theorem held_store (c : Dev nD) (XA : Buf (Elt F) (aM.view.loc (c : Thread nD τ)))
    (Xh : Buf (Elt F) (hM.view.loc (c : Thread nD τ))) (Xb : Buf (Elt F) (bM.view.loc (c : Thread nD τ))) (p : ℕ) (k : Fin k0_t1_loop.trips)
    (hp : 50 * p ≤ k.val) (hp' : k.val < 50 * p + 50) {κ : Kind} {sp : Space} (v : View sig κ sp S1x10000x32 .f32) (f : v.ty.Contents (Elt F))
    {off : Fin 3 → ℕ} (e : off = ![0, 200 * (k.val - 50 * p), 0]) (inb : ∀ a, off a + S1x200x32.size a ≤ S1x10000x32.size a)
    (w : S1x200x32.Idx → F .f32) (hw : ∀ (u : Fin 1) (i : Fin 200) (j : Fin 32), w (ValueIdx.ix3 u i j) = rowsV c XA Xh Xb k (ValueIdx.ix2 i j))
    (hf : Held c XA Xh Xb p (200 * (k.val - 50 * p)) (v.read (Elt F) f)) :
    Held c XA Xh Xb p (200 * (k.val + 1 - 50 * p)) (v.read (Elt F) (v.writes (Elt F) f [⟨Rect.unit (s := S1x10000x32) off S1x200x32.size inb, w⟩])) := by
  intro y hy
  by_cases h : (y 1).val < 200 * (k.val - 50 * p)
  · rw [View.read_writes_cons_unit_of_not_mem v f inb w [] y e 1 (Or.inl h)]
    exact hf y h
  · have h200 : (y 1).val - 200 * (k.val - 50 * p) < 200 := by omega
    rw [View.read_writes_cons_unit_of_mem v f inb w [] y (ValueIdx.ix3 (0 : Fin 1) (⟨(y 1).val - 200 * (k.val - 50 * p), h200⟩ : Fin 200) (y 2 : Fin 32)) e
      (by
        intro a; fin_cases a
        · show (y 0).val = 0 + 0; have : (y 0).val < 1 := (y 0).isLt; omega
        · show (y 1).val = 200 * (k.val - 50 * p) + ((y 1).val - 200 * (k.val - 50 * p)); omega
        · show (y 2).val = 0 + (y 2).val; omega)]
    refine (hw _ _ _).trans ?_
    unfold allRows
    have hd : 50 * p + (y 1).val / 200 = k.val := by omega
    have hm : (y 1).val % 200 = (y 1).val - 200 * (k.val - 50 * p) := by omega
    rw [hd, tk_val]
    exact congrArg (fun i => rowsV c XA Xh Xb k (ValueIdx.ix2 i (y 2 : Fin 32))) (Fin.ext hm.symm)

/-- The stored block at a position is the computed row at that position. -/
theorem pay1_at (r : FVec F S200x32 .f32) (u : Fin 1) (i : Fin 200) (j : Fin 32) : k0_pay1 r (ValueIdx.ix3 u i j) = r (ValueIdx.ix2 i j) := by
  unfold k0_pay1
  rw [shapeCast_self]
  exact ValueIdx.shapeCast_ab_1ab_apply r _ u i j
theorem pay2_at (r : FVec F S200x32 .f32) (u : Fin 1) (i : Fin 200) (j : Fin 32) : k0_pay2 r (ValueIdx.ix3 u i j) = r (ValueIdx.ix2 i j) :=
  ValueIdx.shapeCast_ab_1ab_apply r _ u i j

/-- The sums after trip `k`. -/
theorem sums_succ (c : Dev nD) (XA : Buf (Elt F) (aM.view.loc (c : Thread nD τ)))
    (Xh : Buf (Elt F) (hM.view.loc (c : Thread nD τ))) (Xb : Buf (Elt F) (bM.view.loc (c : Thread nD τ))) (W2 : Vec F S32x16 .f32) (B2 Q2 : Vec F S1x16 .f32)
    (k : Fin k0_t1_loop.trips) (a : F .f32 × F .f32) (h : a = sums c XA Xh Xb W2 B2 Q2 k.val) :
    (k0_pay4 a.1 (pathV k) (rowsV c XA Xh Xb k) W2 B2 Q2, k0_pay5 a.2 (pathV k) (rowsV c XA Xh Xb k) W2 B2 Q2) = sums c XA Xh Xb W2 B2 Q2 (k.val + 1) := by
  subst h
  show _ = (_, _)
  rw [tk_val]

/-- What a trip yields, the three last arrays loaded whole. -/
theorem yield_eq (c : Dev nD) (XA : Buf (Elt F) (aM.view.loc (c : Thread nD τ)))
    (Xh : Buf (Elt F) (hM.view.loc (c : Thread nD τ))) (Xb : Buf (Elt F) (bM.view.loc (c : Thread nD τ)))
    (X2 : Buf (Elt F) (w2M.view.loc (c : Thread nD τ))) (Y2 : Buf (Elt F) (b2M.view.loc (c : Thread nD τ))) (Z2 : Buf (Elt F) (qM.view.loc (c : Thread nD τ)))
    (k : Fin k0_t1_loop.trips) (a0 a1 : F .f32)
    (h : (a0, a1) = sums c XA Xh Xb (w2M.view.read (Elt F) X2) (b2M.view.read (Elt F) Y2) (qM.view.read (Elt F) Z2) k.val) :
    (k0_pay4 a0 (pathV k) (rowsV c XA Xh Xb k)
        (w2M.view.readAt (Elt F) (Rect.unit (s := S32x16) ![0, 0] S32x16.size inb_S32x16_S32x16_0_0).toLoadRect X2)
        (b2M.view.readAt (Elt F) (Rect.unit (s := S1x16) ![0, 0] S1x16.size inb_S1x16_S1x16_0_0).toLoadRect Y2)
        (qM.view.readAt (Elt F) (Rect.unit (s := S1x16) ![0, 0] S1x16.size inb_S1x16_S1x16_0_0).toLoadRect Z2),
      k0_pay5 a1 (pathV k) (rowsV c XA Xh Xb k)
        (w2M.view.readAt (Elt F) (Rect.unit (s := S32x16) ![0, 0] S32x16.size inb_S32x16_S32x16_0_0).toLoadRect X2)
        (b2M.view.readAt (Elt F) (Rect.unit (s := S1x16) ![0, 0] S1x16.size inb_S1x16_S1x16_0_0).toLoadRect Y2)
        (qM.view.readAt (Elt F) (Rect.unit (s := S1x16) ![0, 0] S1x16.size inb_S1x16_S1x16_0_0).toLoadRect Z2))
      = sums c XA Xh Xb (w2M.view.read (Elt F) X2) (b2M.view.read (Elt F) Y2) (qM.view.read (Elt F) Z2) (k.val + 1) := by
  rw [View.readAt_full w2M.view X2 inb_S32x16_S32x16_0_0, View.readAt_full b2M.view Y2 inb_S1x16_S1x16_0_0, View.readAt_full qM.view Z2 inb_S1x16_S1x16_0_0]
  exact sums_succ c XA Xh Xb _ _ _ k (a0, a1) h

/-- Rows beyond the array ask nothing. -/
theorem held_past (c : Dev nD) (XA : Buf (Elt F) (aM.view.loc (c : Thread nD τ)))
    (Xh : Buf (Elt F) (hM.view.loc (c : Thread nD τ))) (Xb : Buf (Elt F) (bM.view.loc (c : Thread nD τ))) (p n n' : ℕ) (hn : n = n' ∨ 10000 ≤ n) (v : S1x10000x32.Idx → F .f32)
    (h : Held c XA Xh Xb p n v) : Held c XA Xh Xb p n' v := fun y hy =>
  h y (by have : (y 1).val < 10000 := (y 1).isLt; omega)

/-- A trip over a block of the first matrix. -/
theorem trip_first (c : Dev nD) (XA : Buf (Elt F) (aM.view.loc (c : Thread nD τ)))
    (Xh : Buf (Elt F) (hM.view.loc (c : Thread nD τ))) (Xb : Buf (Elt F) (bM.view.loc (c : Thread nD τ)))
    (X2 : Buf (Elt F) (w2M.view.loc (c : Thread nD τ))) (Y2 : Buf (Elt F) (b2M.view.loc (c : Thread nD τ))) (Z2 : Buf (Elt F) (qM.view.loc (c : Thread nD τ)))
    (k : Fin k0_t1_loop.trips) (hk : k.val < 50) (acc : F .f32 × F .f32) :
    tripInv c XA Xh Xb X2 Y2 Z2 k.val acc
      ⊢ wp frame (wpE (defs₀ (F := F)) Variants.none (c : Thread nD τ) none) Set.univ (tripG k acc) (tripInv c XA Xh Xb X2 Y2 Z2 (k.val + 1)) := by
  have hc2 := (cond2_iff k).2 hk
  have hc3 : ¬ k0_cond3 k = 1#1 := fun h => by have := (cond3_iff k).1 h; omega
  obtain ⟨a0, a1⟩ := acc
  unfold tripInv
  iintro ⟨%hacc, Hh, Hb, H2, HY, HZ, ⟨%fu, %hu, Hu⟩, ⟨%fo, %ho, Ho⟩, ⟨%W, HW⟩, HR⟩
  dsimp only [tripG]
  unfold k0_t1_body
  iapply (Entails.of_eq (wp_bind _ _ _ _ _ _).symm)
  iapply (part1_run c XA Xh Xb k W _)
  isplitl [Hh]; · iexact Hh
  isplitl [Hb]; · iexact Hb
  isplitl [HW]; · iexact HW
  isplitl [HR]; · iexact HR
  iintro %w ⟨Hh, Hb, HW, HR⟩
  sl_exec
  iapply (wp_done c (yield_eq c XA Xh Xb X2 Y2 Z2 k a0 a1 hacc) _)
  isplitr; · ipureintro; rfl
  isplitl [Hh]; · iexact Hh
  isplitl [Hb]; · iexact Hb
  isplitl [H2]; · iexact H2
  isplitl [HY]; · iexact HY
  isplitl [HZ]; · iexact HZ
  isplitl [Hu]
  · iexists _
    isplitr
    rotate_left
    · iexact Hu
    · ipureintro
      exact held_store c XA Xh Xb 0 k (by omega) (by omega) uM.view fu ((off11_eq k).trans (by rw [Nat.div_eq_of_lt hk, Nat.mod_eq_of_lt hk]; rfl)) _ _ (pay1_at _) hu
  isplitl [Ho]
  · iexists fo
    isplitr
    · ipureintro
      exact held_past c XA Xh Xb 1 _ _ (Or.inl (by omega)) _ ho
    · iexact Ho
  isplitl [HW]; · iexact HW
  iexact HR

/-- A trip over a block of the second matrix. -/
theorem trip_second (c : Dev nD) (XA : Buf (Elt F) (aM.view.loc (c : Thread nD τ)))
    (Xh : Buf (Elt F) (hM.view.loc (c : Thread nD τ))) (Xb : Buf (Elt F) (bM.view.loc (c : Thread nD τ)))
    (X2 : Buf (Elt F) (w2M.view.loc (c : Thread nD τ))) (Y2 : Buf (Elt F) (b2M.view.loc (c : Thread nD τ))) (Z2 : Buf (Elt F) (qM.view.loc (c : Thread nD τ)))
    (k : Fin k0_t1_loop.trips) (hk : ¬ k.val < 50) (acc : F .f32 × F .f32) :
    tripInv c XA Xh Xb X2 Y2 Z2 k.val acc
      ⊢ wp frame (wpE (defs₀ (F := F)) Variants.none (c : Thread nD τ) none) Set.univ (tripG k acc) (tripInv c XA Xh Xb X2 Y2 Z2 (k.val + 1)) := by
  have hk' := trip_lt k
  have hc2 : ¬ k0_cond2 k = 1#1 := fun h => hk ((cond2_iff k).1 h)
  have hc3 := (cond3_iff k).2 (by omega)
  obtain ⟨a0, a1⟩ := acc
  unfold tripInv
  iintro ⟨%hacc, Hh, Hb, H2, HY, HZ, ⟨%fu, %hu, Hu⟩, ⟨%fo, %ho, Ho⟩, ⟨%W, HW⟩, HR⟩
  dsimp only [tripG]
  unfold k0_t1_body
  iapply (Entails.of_eq (wp_bind _ _ _ _ _ _).symm)
  iapply (part1_run c XA Xh Xb k W _)
  isplitl [Hh]; · iexact Hh
  isplitl [Hb]; · iexact Hb
  isplitl [HW]; · iexact HW
  isplitl [HR]; · iexact HR
  iintro %w ⟨Hh, Hb, HW, HR⟩
  sl_exec
  iapply (wp_done c (yield_eq c XA Xh Xb X2 Y2 Z2 k a0 a1 hacc) _)
  isplitr; · ipureintro; rfl
  isplitl [Hh]; · iexact Hh
  isplitl [Hb]; · iexact Hb
  isplitl [H2]; · iexact H2
  isplitl [HY]; · iexact HY
  isplitl [HZ]; · iexact HZ
  isplitl [Hu]
  · iexists fu
    isplitr
    · ipureintro
      exact held_past c XA Xh Xb 0 _ _ (Or.inr (by omega)) _ hu
    · iexact Hu
  isplitl [Ho]
  · iexists _
    isplitr
    rotate_left
    · iexact Ho
    · ipureintro
      exact held_store c XA Xh Xb 1 k (by omega) (by omega) oM.view fo ((off12_eq k).trans (by rw [show k.val % 50 = k.val - 50 * 1 by omega])) _ _ (pay2_at _) ho
  isplitl [HW]; · iexact HW
  iexact HR

/-- One trip. -/
theorem trip_run (c : Dev nD) (XA : Buf (Elt F) (aM.view.loc (c : Thread nD τ)))
    (Xh : Buf (Elt F) (hM.view.loc (c : Thread nD τ))) (Xb : Buf (Elt F) (bM.view.loc (c : Thread nD τ)))
    (X2 : Buf (Elt F) (w2M.view.loc (c : Thread nD τ))) (Y2 : Buf (Elt F) (b2M.view.loc (c : Thread nD τ))) (Z2 : Buf (Elt F) (qM.view.loc (c : Thread nD τ)))
    (k : Fin k0_t1_loop.trips) (acc : F .f32 × F .f32) :
    tripInv c XA Xh Xb X2 Y2 Z2 k.val acc
      ⊢ wp frame (wpE (defs₀ (F := F)) Variants.none (c : Thread nD τ) none) Set.univ (tripG k acc) (tripInv c XA Xh Xb X2 Y2 Z2 (k.val + 1)) := by
  by_cases hk : k.val < 50
  · exact trip_first c XA Xh Xb X2 Y2 Z2 k hk acc
  · exact trip_second c XA Xh Xb X2 Y2 Z2 k hk acc

end Cert.Proof.KI

end
-- ==== Proof.Ideal.Body.lean ====
/-
  The kernel's body, whole: four transfers issued, the projected features of both matrices computed, the hundred trips,
  and the final combination stored in the result.
-/
module

public import proofs.«01_k».proof.Proof.Ideal.Split
public import proofs.«01_k».proof.Proof.Ideal.Trip
public import Idealize.ShloMosaic.Lib.VecWindow
public import Idealize.ShloMosaic.Lib.LaneScatter.Tiles

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

section Values
variable (c : Dev nD) (Xx : Buf (Elt F) (xM.view.loc (c : Thread nD τ))) (Xw : Buf (Elt F) (wM.view.loc (c : Thread nD τ)))

/-- The first and the second weight matrix. -/
def wAt (p : Fin 2) : Vec F S1x128x32 .f32 :=
  wM.view.readAt (Elt F) (Rect.unit (s := S2x128x32) ![p.val, 0, 0] S1x128x32.size (by
    have := p.isLt; intro a; fin_cases a
    · show p.val + 1 ≤ 2; omega
    · show 0 + 128 ≤ 128; omega
    · show 0 + 32 ≤ 32; omega)).toLoadRect Xw
/-- The two stores of the projected features, the later first. -/
def hPieces : List (View.Piece (Elt F) S2x10000x32 .bf16) :=
  [⟨Rect.unit (s := S2x10000x32) ![1, 0, 0] S1x10000x32.size inb_S2x10000x32_S1x10000x32_1_0_0, k0_pay10 (xM.view.read (Elt F) Xx) (wAt c Xw 1)⟩,
   ⟨Rect.unit (s := S2x10000x32) ![0, 0, 0] S1x10000x32.size inb_S2x10000x32_S1x10000x32_0_0_0, k0_pay9 (xM.view.read (Elt F) Xx) (wAt c Xw 0)⟩]

end Values

/-- The first part issues blocks 0, 1 and 2. -/
theorem part2_run (c : Dev nD) (XA : Buf (Elt F) (aM.view.loc (c : Thread nD τ))) (f0 f1 f2) (Q : PUnit → sProp 𝕄) :
    iprop(slotP c 0 f0 ∗ slotP c 1 f1 ∗ slotP c 2 f2
      ∗ cellP (F := F) c 0 ∗ cellP (F := F) c 1 ∗ cellP (F := F) c 2
      ∗ homeP c XA 0 ∗ homeP c XA 1 ∗ homeP c XA 2
      ∗ (iprop(flightP c XA 0 0 f0 ∗ flightP c XA 1 1 f1 ∗ flightP c XA 2 2 f2) -∗ Q ⟨⟩))
    ⊢ wp frame (wpE (defs₀ (F := F)) Variants.none (c : Thread nD τ) none) Set.univ
        (k0_part2 (F := F) xM (Memref.isWhole_whole _) aM (Memref.isWhole_whole _) wM (Memref.isWhole_whole _) bM (Memref.isWhole_whole _) w2M (Memref.isWhole_whole _) b2M (Memref.isWhole_whole _) qM (Memref.isWhole_whole _) oM (Memref.isWhole_whole _) hM (Memref.isWhole_whole _) uM (Memref.isWhole_whole _) bufM (Memref.isWhole_whole _) cc0_scratch3) Q := by
  iintro ⟨S0, S1, S2, C0, C1, C2, B0, B1, B2, Hk⟩
  sl_unfold [k0_part2]
  sl_exec
  iapply (wp_done c (a' := ⟨⟩) rfl Q)
  iapply Hk
  isplitl [C0]; · iexact C0
  isplitl [C1]; · iexact C1
  iexact C2

/-- The second part issues block 3 and computes the projected features of both matrices. -/
theorem part3_run (c : Dev nD) (XA : Buf (Elt F) (aM.view.loc (c : Thread nD τ)))
    (Xx : Buf (Elt F) (xM.view.loc (c : Thread nD τ))) (Xw : Buf (Elt F) (wM.view.loc (c : Thread nD τ)))
    (fh : Buf (Elt F) (hM.view.loc (c : Thread nD τ))) (f3) (Q) :
    iprop((xM.view.loc (c : Thread nD τ) ↦[xM.view.set]{fullShare} Xx)
      ∗ (wM.view.loc (c : Thread nD τ) ↦[wM.view.set]{fullShare} Xw)
      ∗ (hM.view.loc (c : Thread nD τ) ↦[hM.view.set]{fullShare} fh)
      ∗ slotP c 3 f3 ∗ cellP (F := F) c 3 ∗ homeP c XA 3
      ∗ (iprop((xM.view.loc (c : Thread nD τ) ↦[xM.view.set]{fullShare} Xx)
          ∗ (wM.view.loc (c : Thread nD τ) ↦[wM.view.set]{fullShare} Xw)
          ∗ (hM.view.loc (c : Thread nD τ) ↦[hM.view.set]{fullShare} hM.view.writes (Elt F) fh (hPieces c Xx Xw))
          ∗ flightP c XA 3 3 f3)
          -∗ Q ⟨Scalar.ofBits .f32 0x00000000#32, Scalar.ofBits .f32 0x00000000#32, 0#32, 100#32⟩))
    ⊢ wp frame (wpE (defs₀ (F := F)) Variants.none (c : Thread nD τ) none) Set.univ
        (k0_part3 (F := F) xM (Memref.isWhole_whole _) aM (Memref.isWhole_whole _) wM (Memref.isWhole_whole _) bM (Memref.isWhole_whole _) w2M (Memref.isWhole_whole _) b2M (Memref.isWhole_whole _) qM (Memref.isWhole_whole _) oM (Memref.isWhole_whole _) hM (Memref.isWhole_whole _) uM (Memref.isWhole_whole _) bufM (Memref.isWhole_whole _) cc0_scratch3) Q := by
  unfold hPieces
  rw [← View.readAt_full xM.view Xx inb_S10000x128_S10000x128_0_0]
  iintro ⟨Hx, Hw, Hh, S3, C3, B3, Hk⟩
  sl_unfold [k0_part3]
  sl_exec
  iapply (wp_done c (a' := ⟨Scalar.ofBits .f32 0x00000000#32, Scalar.ofBits .f32 0x00000000#32, 0#32, 100#32⟩) rfl Q)
  iapply Hk
  isplitl [Hx]; · iexact Hx
  isplitl [Hw]; · iexact Hw
  isplitl [Hh]; · iexact Hh
  iexact C3

/-- The two stores fill the array of projected features, so what it held before does not matter. -/
def hBuf (c : Dev nD) (Xx : Buf (Elt F) (xM.view.loc (c : Thread nD τ))) (Xw : Buf (Elt F) (wM.view.loc (c : Thread nD τ))) :
    Buf (Elt F) (hM.view.loc (c : Thread nD τ)) := hM.view.writes (Elt F) hM.view.junk (hPieces c Xx Xw)
theorem hBuf_eq (c : Dev nD) (Xx : Buf (Elt F) (xM.view.loc (c : Thread nD τ))) (Xw : Buf (Elt F) (wM.view.loc (c : Thread nD τ)))
    (fh : Buf (Elt F) (hM.view.loc (c : Thread nD τ))) : hM.view.writes (Elt F) fh (hPieces c Xx Xw) = hBuf c Xx Xw := by
  have hc : ∀ y : S2x10000x32.Idx, ∃ pc ∈ hPieces c Xx Xw, y ∈ pc.1.set := by
    intro y
    have h1 : (y 1).val < 10000 := (y 1).isLt
    have h2 : (y 2).val < 32 := (y 2).isLt
    by_cases h : (y 0).val = 0
    · refine ⟨_, List.mem_cons_of_mem _ (List.mem_singleton.2 rfl), ?_⟩
      rw [Rect.mem_set_unit]; intro a; fin_cases a
      · show 0 ≤ (y 0).val ∧ (y 0).val < 0 + 1; omega
      · show 0 ≤ (y 1).val ∧ (y 1).val < 0 + 10000; omega
      · show 0 ≤ (y 2).val ∧ (y 2).val < 0 + 32; omega
    · refine ⟨_, List.mem_cons_self, ?_⟩
      have h0 : (y 0).val < 2 := (y 0).isLt
      rw [Rect.mem_set_unit]; intro a; fin_cases a
      · show 1 ≤ (y 0).val ∧ (y 0).val < 1 + 1; omega
      · show 0 ≤ (y 1).val ∧ (y 1).val < 0 + 10000; omega
      · show 0 ≤ (y 2).val ∧ (y 2).val < 0 + 32; omega
  have e := View.read_writes_of_cover (Val := Elt F) hM.view fh hM.view hM.view.junk (hPieces c Xx Xw) hc
  have w : ∀ g : Buf (Elt F) (hM.view.loc (c : Thread nD τ)), hM.view.read (Elt F) g = g := fun g => rfl
  exact (w _).symm.trans (e.trans (w _))

/-- What the body leaves in the result: the two sums' softmax combining the rows of the two matrices. -/
def resV (c : Dev nD) (XA : Buf (Elt F) (aM.view.loc (c : Thread nD τ)))
    (Xx : Buf (Elt F) (xM.view.loc (c : Thread nD τ))) (Xw : Buf (Elt F) (wM.view.loc (c : Thread nD τ)))
    (Xb : Buf (Elt F) (bM.view.loc (c : Thread nD τ)))
    (X2 : Buf (Elt F) (w2M.view.loc (c : Thread nD τ))) (Y2 : Buf (Elt F) (b2M.view.loc (c : Thread nD τ))) (Z2 : Buf (Elt F) (qM.view.loc (c : Thread nD τ))) :
    Vec F S1x10000x32 .f32 :=
  k0_pay6 (sums c XA (hBuf c Xx Xw) Xb (w2M.view.read (Elt F) X2) (b2M.view.read (Elt F) Y2) (qM.view.read (Elt F) Z2) 100).1
    (sums c XA (hBuf c Xx Xw) Xb (w2M.view.read (Elt F) X2) (b2M.view.read (Elt F) Y2) (qM.view.read (Elt F) Z2) 100).2
    (allRows c XA (hBuf c Xx Xw) Xb 1) (allRows c XA (hBuf c Xx Xw) Xb 0)

/-- The whole body: on the staged operands, the adjacency array whole, the scratch arrays at anything and the four
    semaphores at zero, it leaves the result at `resV` and everything else as it was or at anything. -/
theorem body_run (c : Dev nD) (XA : Buf (Elt F) (aM.view.loc (c : Thread nD τ)))
    (Xx : Buf (Elt F) (xM.view.loc (c : Thread nD τ))) (Xw : Buf (Elt F) (wM.view.loc (c : Thread nD τ)))
    (Xb : Buf (Elt F) (bM.view.loc (c : Thread nD τ)))
    (X2 : Buf (Elt F) (w2M.view.loc (c : Thread nD τ))) (Y2 : Buf (Elt F) (b2M.view.loc (c : Thread nD τ))) (Z2 : Buf (Elt F) (qM.view.loc (c : Thread nD τ)))
    (fh : Buf (Elt F) (hM.view.loc (c : Thread nD τ))) (fu : Buf (Elt F) (uM.view.loc (c : Thread nD τ))) (fo : Buf (Elt F) (oM.view.loc (c : Thread nD τ)))
    (W) (Q : PUnit → sProp 𝕄) :
    iprop((xM.view.loc (c : Thread nD τ) ↦[xM.view.set]{fullShare} Xx)
      ∗ (wM.view.loc (c : Thread nD τ) ↦[wM.view.set]{fullShare} Xw)
      ∗ (bM.view.loc (c : Thread nD τ) ↦[bM.view.set]{fullShare} Xb)
      ∗ (w2M.view.loc (c : Thread nD τ) ↦[w2M.view.set]{fullShare} X2)
      ∗ (b2M.view.loc (c : Thread nD τ) ↦[b2M.view.set]{fullShare} Y2)
      ∗ (qM.view.loc (c : Thread nD τ) ↦[qM.view.set]{fullShare} Z2)
      ∗ (oM.view.loc (c : Thread nD τ) ↦[oM.view.set]{fullShare} fo)
      ∗ (hM.view.loc (c : Thread nD τ) ↦[hM.view.set]{fullShare} fh)
      ∗ (uM.view.loc (c : Thread nD τ) ↦[uM.view.set]{fullShare} fu)
      ∗ (∃ f : Buf (Elt F) ((c : Thread nD τ).loc cc0_scratch2), ((c : Thread nD τ).loc cc0_scratch2) ↦{fullShare} f)
      ∗ cellP (F := F) c 0 ∗ cellP (F := F) c 1 ∗ cellP (F := F) c 2 ∗ cellP (F := F) c 3
      ∗ (((c : Thread nD τ).loc main_arg1) ↦{fullShare} XA)
      ∗ owes (c : Thread nD τ) 0 W
      ∗ (iprop((xM.view.loc (c : Thread nD τ) ↦[xM.view.set]{fullShare} Xx)
          ∗ (wM.view.loc (c : Thread nD τ) ↦[wM.view.set]{fullShare} Xw)
          ∗ (bM.view.loc (c : Thread nD τ) ↦[bM.view.set]{fullShare} Xb)
          ∗ (w2M.view.loc (c : Thread nD τ) ↦[w2M.view.set]{fullShare} X2)
          ∗ (b2M.view.loc (c : Thread nD τ) ↦[b2M.view.set]{fullShare} Y2)
          ∗ (qM.view.loc (c : Thread nD τ) ↦[qM.view.set]{fullShare} Z2)
          ∗ (∃ f : Buf (Elt F) (oM.view.loc (c : Thread nD τ)), ⌜oM.view.read (Elt F) f = resV c XA Xx Xw Xb X2 Y2 Z2⌝ ∗ (oM.view.loc (c : Thread nD τ) ↦[oM.view.set]{fullShare} f))
          ∗ (∃ f : Buf (Elt F) (hM.view.loc (c : Thread nD τ)), hM.view.loc (c : Thread nD τ) ↦[hM.view.set]{fullShare} f)
          ∗ (∃ f : Buf (Elt F) (uM.view.loc (c : Thread nD τ)), uM.view.loc (c : Thread nD τ) ↦[uM.view.set]{fullShare} f)
          ∗ (∃ f : Buf (Elt F) ((c : Thread nD τ).loc cc0_scratch2), ((c : Thread nD τ).loc cc0_scratch2) ↦{fullShare} f)
          ∗ cellP (F := F) c 0 ∗ cellP (F := F) c 1 ∗ cellP (F := F) c 2 ∗ cellP (F := F) c 3
          ∗ (((c : Thread nD τ).loc main_arg1) ↦{fullShare} XA)
          ∗ (∃ W', owes (c : Thread nD τ) 0 W')) -∗ Q ⟨⟩))
    ⊢ wp frame (wpE (defs₀ (F := F)) Variants.none (c : Thread nD τ) none) Set.univ
        (cc0__fused_body (F := F) xM (Memref.isWhole_whole _) aM (Memref.isWhole_whole _) wM (Memref.isWhole_whole _) bM (Memref.isWhole_whole _) w2M (Memref.isWhole_whole _) b2M (Memref.isWhole_whole _) qM (Memref.isWhole_whole _) oM (Memref.isWhole_whole _) hM (Memref.isWhole_whole _) uM (Memref.isWhole_whole _) bufM (Memref.isWhole_whole _) cc0_scratch3) Q := by
  rw [cc0__fused_body_eq_skeleton]
  iintro ⟨Hx, Hw, Hb, H2, HY, HZ, Ho, Hh, Hu, HS, C0, C1, C2, C3, HA, HW, Hk⟩
  icases ((buf_split c).trans (Entails.of_eq (bigSep_fin4 _))) $$ HS with ⟨⟨%f0, S0⟩, ⟨%f1, S1⟩, ⟨%f2, S2⟩, ⟨%f3, S3⟩⟩
  icases (Entails.of_eq ((array_eq c XA).trans (homes_first _))) $$ HA with ⟨B0, B1, B2, B3, HR⟩
  unfold cc0__fused_body_skel
  iapply (Entails.of_eq (wp_bind _ _ _ _ _ _).symm)
  iapply (part2_run c XA f0 f1 f2 _)
  isplitl [S0]; · iexact S0
  isplitl [S1]; · iexact S1
  isplitl [S2]; · iexact S2
  isplitl [C0]; · iexact C0
  isplitl [C1]; · iexact C1
  isplitl [C2]; · iexact C2
  isplitl [B0]; · iexact B0
  isplitl [B1]; · iexact B1
  isplitl [B2]; · iexact B2
  iintro ⟨F0, F1, F2⟩
  iapply (Entails.of_eq (wp_bind _ _ _ _ _ _).symm)
  iapply (part3_run c XA Xx Xw fh f3 _)
  isplitl [Hx]; · iexact Hx
  isplitl [Hw]; · iexact Hw
  isplitl [Hh]; · iexact Hh
  isplitl [S3]; · iexact S3
  isplitl [C3]; · iexact C3
  isplitl [B3]; · iexact B3
  rw [hBuf_eq c Xx Xw fh]
  iintro ⟨Hx, Hw, Hh, F3⟩
  iapply (Scf.wp_for_bind frame (wpE (defs₀ (F := F)) Variants.none c none) Set.univ (0#32) _ (1#32) k0_t1_ok _ _
    (tripInv c XA (hBuf c Xx Xw) Xb X2 Y2 Z2) (fun k acc => trip_run c XA (hBuf c Xx Xw) Xb X2 Y2 Z2 k acc)) $$ [Hb H2 HY HZ Ho Hh Hu F0 F1 F2 F3 HR HW]
  · unfold tripInv
    isplitr
    · ipureintro; rfl
    isplitl [Hh]; · iexact Hh
    isplitl [Hb]; · iexact Hb
    isplitl [H2]; · iexact H2
    isplitl [HY]; · iexact HY
    isplitl [HZ]; · iexact HZ
    isplitl [Hu]
    · iexists fu; isplitr
      · ipureintro; intro y hy; exact absurd hy (by omega)
      iexact Hu
    isplitl [Ho]
    · iexists fo; isplitr
      · ipureintro; intro y hy; exact absurd hy (by omega)
      iexact Ho
    isplitl [HW]; · iexists _; iexact HW
    iapply (ring_start c XA f0 f1 f2 f3)
    isplitl [F0]; · iexact F0
    isplitl [F1]; · iexact F1
    isplitl [F2]; · iexact F2
    isplitl [F3]; · iexact F3
    iexact HR
  iintro %s Hinv
  obtain ⟨s0, s1⟩ := s
  have e100 : Scf.trips (0#32) k0_t1_loop.ub 1#32 = 100 := trips_eq
  rw [e100]
  unfold tripInv
  icases Hinv with ⟨%hs, Hh, Hb, H2, HY, HZ, ⟨%gu, %hu, Hu⟩, ⟨%go, %ho, Ho⟩, ⟨%W', HW⟩, HR⟩
  icases (ring_end c XA) $$ HR with ⟨HA, HS, C0, C1, C2, C3⟩
  dsimp only
  sl_exec
  iapply (wp_done c (a' := ⟨⟩) rfl Q)
  iapply Hk
  isplitl [Hx]; · iexact Hx
  isplitl [Hw]; · iexact Hw
  isplitl [Hb]; · iexact Hb
  isplitl [H2]; · iexact H2
  isplitl [HY]; · iexact HY
  isplitl [HZ]; · iexact HZ
  isplitl [Ho]
  · iexists _; isplitr
    swap; · iexact Ho
    ipureintro
    have rows1 : oM.view.read (Elt F) go = allRows c XA (hBuf c Xx Xw) Xb 1 := funext fun y => ho y (y 1).isLt
    have rows0 : uM.view.read (Elt F) gu = allRows c XA (hBuf c Xx Xw) Xb 0 := funext fun y => hu y (Nat.lt_of_lt_of_le (y 1).isLt (by decide))
    refine (LaneScatter.read_whole_store oM.view go (fun a => by fin_cases a <;> rfl) inb_S1x10000x32_S1x10000x32_0_0_0 _).trans ?_
    unfold resV
    rw [← hs]
    exact congrArg₂ (k0_pay6 s0 s1) ((View.readAt_full oM.view go inb_S1x10000x32_S1x10000x32_0_0_0).trans rows1) ((View.readAt_full uM.view gu inb_S1x10000x32_S1x10000x32_0_0_0).trans rows0)
  isplitl [Hh]; · iexists _; iexact Hh
  isplitl [Hu]; · iexists _; iexact Hu
  isplitl [HS]; · iexact HS
  isplitl [C0]; · iexact C0
  isplitl [C1]; · iexact C1
  isplitl [C2]; · iexact C2
  isplitl [C3]; · iexact C3
  isplitl [HA]; · iexact HA
  iexists _; iexact HW

end Cert.Proof.KI

end
-- ==== Proof.Ideal.Launch.lean ====
/-
  The kernel's run: the staged operands' contents, the region's invariant, the body's obligation, and what every run of
  the program leaves in memory.
-/
module

public import proofs.«01_k».proof.Proof.Ideal.Body
public import proofs.«01_k».proof.Proof.Gen.KernelIdeal.Frame
public import Idealize.ShloMosaic.Lib.Pipeline.FrameBody

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The four semaphores the body uses itself. -/
abbrev osem0 : Fin 4 → SemLoc sig := fun s => .dma (csm s).sem
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 ∗ cellP (F := F) c 1 ∗ cellP (F := F) c 2 ∗ cellP (F := F) c 3) := by
  unfold Pipeline.ownSems0; rw [bigSep_fin4]
/-- The array the body's transfers read: the adjacency matrices. -/
def H0 : Finset (Ref sig .tc) := {main_arg1}
theorem H0_sub : H0 ⊆ Pipeline.restRefs sig spec0 := by decide
theorem read_eq (c : Dev nD) :
    (bigSep H0 (fun b => ((c : Thread nD τ).loc b) ↦{fullShare} V m c b) : sProp 𝕄)
      = (((c : Thread nD τ).loc main_arg1) ↦{fullShare} V m c main_arg1) := by
  rw [BI.bigSep_eq_bigSepL_of_eq [main_arg1] (by decide) (by decide)]; rfl

/-- The region's invariant, part by part. -/
theorem inv_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f))
          ∗ (∃ r, prngReg c r)
          ∗ iprop(cellP (F := F) c 0 ∗ cellP (F := F) c 1 ∗ cellP (F := F) c 2 ∗ cellP (F := F) c 3)
          ∗ (((c : Thread nD τ).loc main_arg1) ↦{fullShare} V m c main_arg1)) := by
  rw [Pipeline.ΦD_eq, scopedRest0_eq, ownSems0_eq, read_eq]

/-- What the body leaves in the result, of the staged operands' contents. -/
def outV (c : Dev nD) (t : Fin cfg0.N) : Vec F S1x10000x32 .f32 :=
  resV c (V m c main_arg1) (iblk m c 0 t) (iblk m c 1 t) (iblk m c 2 t) (iblk m c 3 t) (iblk m c 4 t) (iblk m c 5 t)

/-- The pipeline's proof data on core `c`: the arrays as the region finds them, each input's buffer after the body at its
    block, the result's at `outV`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outV m c t := by dsimp only [dats]

/-- An input's staging buffer holds what its fetch put there when the body runs: the block. -/
theorem before_in (c : Dev nD) (w : Fin cfg0.W) (hf : ∀ t, (cfg0.win w).fetch t = true) (t : Fin cfg0.N) (d) :
    (dats m 0 c).before w t d = (cfg0.win w).fill (cfg0.grid.coords t) d (iblk m c w t) :=
  (dats m 0 c).before_fetched w t (hf t) d

/-- The two scratch arrays held on all their elements are held whole. -/
theorem h_whole (c : Dev nD) (f : Buf (Elt F) ((c : Thread nD τ).loc cc0_scratch0)) :
    (((c : Thread nD τ).loc cc0_scratch0) ↦{fullShare} f : sProp 𝕄) = (hM.view.loc (c : Thread nD τ) ↦[hM.view.set]{fullShare} f) :=
  (congrArg (fun S => (((c : Thread nD τ).loc cc0_scratch0) ↦[S]{fullShare} f : sProp 𝕄)) (View.set_whole cc0_scratch0)).symm
theorem u_whole (c : Dev nD) (f : Buf (Elt F) ((c : Thread nD τ).loc cc0_scratch1)) :
    (((c : Thread nD τ).loc cc0_scratch1) ↦{fullShare} f : sProp 𝕄) = (uM.view.loc (c : Thread nD τ) ↦[uM.view.set]{fullShare} f) :=
  (congrArg (fun S => (((c : Thread nD τ).loc cc0_scratch1) ↦[S]{fullShare} f : sProp 𝕄)) (View.set_whole cc0_scratch1)).symm

/-- The body on one core: from the invariant and the staged operands to the invariant, the operands and the result. -/
theorem sound_body (c : Dev nD) :
    iprop((dats m 0 c).Φ t0_0.castSucc ∗ (dats m 0 c).owesAt () t0_0.castSucc
      ∗ (∃ d, owns (c : Thread nD τ) xM fullShare ((dats m 0 c).before 0 t0_0 d))
      ∗ (∃ d, owns (c : Thread nD τ) wM fullShare ((dats m 0 c).before 1 t0_0 d))
      ∗ (∃ d, owns (c : Thread nD τ) bM fullShare ((dats m 0 c).before 2 t0_0 d))
      ∗ (∃ d, owns (c : Thread nD τ) w2M fullShare ((dats m 0 c).before 3 t0_0 d))
      ∗ (∃ d, owns (c : Thread nD τ) b2M fullShare ((dats m 0 c).before 4 t0_0 d))
      ∗ (∃ d, owns (c : Thread nD τ) qM fullShare ((dats m 0 c).before 5 t0_0 d))
      ∗ (∃ d, owns (c : Thread nD τ) oM fullShare ((dats m 0 c).before 6 t0_0 d)))
    ⊢ wp frame (wpE (defs₀ (F := F)) Variants.none (c : Thread nD τ) none) Set.univ (bodyAt0 t0_0) (fun _ =>
      iprop((dats m 0 c).Φ t0_0.succ ∗ (dats m 0 c).owesAt () t0_0.succ
      ∗ owns (c : Thread nD τ) xM fullShare ((dats m 0 c).after 0 t0_0)
      ∗ owns (c : Thread nD τ) wM fullShare ((dats m 0 c).after 1 t0_0)
      ∗ owns (c : Thread nD τ) bM fullShare ((dats m 0 c).after 2 t0_0)
      ∗ owns (c : Thread nD τ) w2M fullShare ((dats m 0 c).after 3 t0_0)
      ∗ owns (c : Thread nD τ) b2M fullShare ((dats m 0 c).after 4 t0_0)
      ∗ owns (c : Thread nD τ) qM fullShare ((dats m 0 c).after 5 t0_0)
      ∗ owns (c : Thread nD τ) oM fullShare ((dats m 0 c).after 6 t0_0))) := by
  rw [show (dats m 0 c).Φ t0_0.succ = (dats m 0 c).Φ t0_0.castSucc from rfl, after_0, after_1, after_2, after_3, after_4, after_5, after_6]
  rw [show (dats m 0 c).Φ t0_0.castSucc = Pipeline.ΦD osem0 spec0 H0 (V m) c from rfl, inv_eq]
  unfold Dat.owesAt Pipeline.owesWithin
  rw [show (dats m 0 c).owed t0_0.castSucc = 0 from rfl, show (dats m 0 c).owed t0_0.succ = 0 from rfl]
  unfold owns
  iintro ⟨⟨⟨⟨%fh, Hh⟩, ⟨%fu, Hu⟩, HS⟩, Hg, ⟨C0, C1, C2, C3⟩, HA⟩, ⟨%W, -, HW⟩, ⟨%d0, %f0, %e0, Hx⟩, ⟨%d1, %f1, %e1, Hw⟩, ⟨%d2, %f2, %e2, Hb⟩, ⟨%d3, %f3, %e3, H2⟩, ⟨%d4, %f4, %e4, HY⟩, ⟨%d5, %f5, %e5, HZ⟩, ⟨%d6, %f6, -, Ho⟩⟩
  have g0 : f0 = iblk m c 0 t0_0 := e0.trans (before_in m c 0 fetch0_0 t0_0 d0)
  have g1 : f1 = iblk m c 1 t0_0 := e1.trans (before_in m c 1 fetch0_1 t0_0 d1)
  have g2 : f2 = iblk m c 2 t0_0 := e2.trans (before_in m c 2 fetch0_2 t0_0 d2)
  have g3 : f3 = iblk m c 3 t0_0 := e3.trans (before_in m c 3 fetch0_3 t0_0 d3)
  have g4 : f4 = iblk m c 4 t0_0 := e4.trans (before_in m c 4 fetch0_4 t0_0 d4)
  have g5 : f5 = iblk m c 5 t0_0 := e5.trans (before_in m c 5 fetch0_5 t0_0 d5)
  subst g0 g1 g2 g3 g4 g5
  iapply (body_run c (V m c main_arg1) _ _ _ _ _ _ fh fu f6 W _)
  isplitl [Hx]; · iexact Hx
  isplitl [Hw]; · iexact Hw
  isplitl [Hb]; · iexact Hb
  isplitl [H2]; · iexact H2
  isplitl [HY]; · iexact HY
  isplitl [HZ]; · iexact HZ
  isplitl [Ho]; · iexact Ho
  isplitl [Hh]; · iapply (Entails.of_eq (h_whole c fh)); iexact Hh
  isplitl [Hu]; · iapply (Entails.of_eq (u_whole c fu)); iexact Hu
  isplitl [HS]; · iexact HS
  isplitl [C0]; · iexact C0
  isplitl [C1]; · iexact C1
  isplitl [C2]; · iexact C2
  isplitl [C3]; · iexact C3
  isplitl [HA]; · iexact HA
  isplitl [HW]; · iexact HW
  iintro ⟨Hx, Hw, Hb, H2, HY, HZ, ⟨%fo, %ho, Ho⟩, Hh, Hu, HS, C0, C1, C2, C3, HA, ⟨%W', HW⟩⟩
  icases Hh with ⟨%gh, Hh⟩
  icases Hu with ⟨%gu, Hu⟩
  isplitl [Hh Hu HS Hg C0 C1 C2 C3 HA]
  · isplitl [Hh Hu HS]
    · isplitl [Hh]; · iexists gh; iapply (Entails.of_eq (h_whole c gh).symm); iexact Hh
      isplitl [Hu]; · iexists gu; iapply (Entails.of_eq (u_whole c gu).symm); iexact Hu
      iexact HS
    isplitl [Hg]; · iexact Hg
    isplitl [C0 C1 C2 C3]
    · isplitl [C0]; · iexact C0
      isplitl [C1]; · iexact C1
      isplitl [C2]; · iexact C2
      iexact C3
    iexact HA
  isplitl [HW]
  · iexists W'; isplitr; · ipureintro; exact fun _ _ => Or.inl trivial
    iexact HW
  isplitl [Hx]; · iexists _; isplitr; swap; · iexact Hx
                  ipureintro; rfl
  isplitl [Hw]; · iexists _; isplitr; swap; · iexact Hw
                  ipureintro; rfl
  isplitl [Hb]; · iexists _; isplitr; swap; · iexact Hb
                  ipureintro; rfl
  isplitl [H2]; · iexists _; isplitr; swap; · iexact H2
                  ipureintro; rfl
  isplitl [HY]; · iexists _; isplitr; swap; · iexact HY
                  ipureintro; rfl
  isplitl [HZ]; · iexists _; isplitr; swap; · iexact HZ
                  ipureintro; rfl
  iexists fo; isplitr; swap; · iexact Ho
  ipureintro; exact ho

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  obtain rfl : t = t0_0 := fin_N0 t
  exact triple_restated (sound_body m c) rfl .rfl fun _ => .rfl

set_option backward.isDefEq.respectTransparency.types false in
/-- Every run of the program terminates without a fault, with the arrays as the proof data says and every semaphore at
    zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl) (hQ' := fun _ h => h)

/-- A block as large as its array, at offset zero, is the array: what is read of it is the contents. -/
theorem flushed_eq (c : Dev nD) (t : Fin cfg0.N) (_ : (cfg0.win 6).flush t = true) :
    (dats m 0 c).flushed 6 t = ((cfg0.win 6).blk t).view.read (Elt F) (outV m c t0_0) := by
  obtain rfl : t = t0_0 := fin_N0 t
  show (cfg0.win 6).cut (grid0.coords t0_0) ((dats m 0 c).after 6 t0_0) = _
  rw [after_6]
  have hz : (fun a => win0_6.index t0_0 a * main_v1.ty.shape.size a) = fun _ => 0 := funext fun a => by
    show 0 * _ = 0
    exact Nat.zero_mul _
  exact (Memref.read_access_unit_zero (Elt F) main_v1 hz (fun a => by rw [congrFun hz a]; simp) (outV m c t0_0)).symm

/-- The one write-back covers the result array, so it ends at what the body left. -/
theorem result_eq (c : Dev nD) : (dats m 0 c).arrAt 6 (cfgs 0).N = outV m c t0_0 :=
  (dats m 0 c).arrAt_eq_of_cover 6 (outV m c t0_0) (flushed_eq m c)
    (fun i => ⟨t0_0, flush0_6 t0_0, by
      show i ∈ ((View.whole main_v1).slice (win0_6.rect t0_0)).set
      rw [View.set_slice_whole, Rect.mem_set_unit]
      intro a
      show 0 * main_v1.ty.shape.size a ≤ (i a : Nat) ∧ (i a : Nat) < 0 * main_v1.ty.shape.size a + main_v1.ty.shape.size a
      have h : (i a : Nat) < main_v1.ty.shape.size a := (i a).isLt
      omega⟩)

/-- The result and the arguments after a run: the result holds `outV`, the arguments are as they were. -/
theorem run_value : θ_run defs (onTc (τ := τ) (main (F := F))) ⟨m, fun _ => 0, ρ⟩ (fun r => (∀ c : Dev nD,
      r.2.mem ((c.tc : Thread nD τ).loc main_v1) = outV m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).1 6).trans (result_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 1).trans (((dats m 0 c).arrAt_in 1 rfl _).trans ((A_eq m c 1).trans (V_main_arg3 m c))),
      ((h.1 c).1 2).trans (((dats m 0 c).arrAt_in 2 rfl _).trans ((A_eq m c 2).trans (V_main_arg4 m c))),
      ((h.1 c).1 3).trans (((dats m 0 c).arrAt_in 3 rfl _).trans ((A_eq m c 3).trans (V_main_arg5 m c))),
      ((h.1 c).1 4).trans (((dats m 0 c).arrAt_in 4 rfl _).trans ((A_eq m c 4).trans (V_main_arg6 m c))),
      ((h.1 c).1 5).trans (((dats m 0 c).arrAt_in 5 rfl _).trans ((A_eq m c 5).trans (V_main_arg7 m c)))⟩, h.2⟩) (run_main m ρ)

end Cert.Proof.KI

end
-- ==== Proof.Value.Spec.lean ====
/- What both programs compute, over the extended reals: two graph convolutions, a score of each, and the rows of the two
   combined by the softmax of the scores' means. -/
module

public import Idealize.ShloMosaic.PureOps.Ideal

@[expose] public section

noncomputable section

namespace Cert.Proof.Value

open Idealize.ShloMosaic

/-- The features projected by one weight matrix. -/
def feat (x : Fin 10000 → Fin 128 → EReal) (W : Fin 128 → Fin 32 → EReal) (n : Fin 10000) (j : Fin 32) : EReal :=
  ∑ k, x n k * W k j

/-- A row of one convolution: the neighbours' projected features summed, the bias added, the negative part cut off. -/
def row (A : Fin 10000 → Fin 10000 → EReal) (h : Fin 10000 → Fin 32 → EReal) (b : Fin 32 → EReal) (r : Fin 10000) (j : Fin 32) : EReal :=
  max ((∑ k, A r k * h k j) + b j) 0

/-- What one row adds to its convolution's score. -/
def rowScore (W : Fin 32 → Fin 16 → EReal) (b q : Fin 16 → EReal) (v : Fin 32 → EReal) : EReal :=
  ∑ s, Ideal.tanh ((∑ j, v j * W j s) + b s) * q s

/-- A convolution's score: its rows' contributions summed. -/
def score (W : Fin 32 → Fin 16 → EReal) (b q : Fin 16 → EReal) (v : Fin 10000 → Fin 32 → EReal) : EReal :=
  ∑ r, rowScore W b q (v r)

/-- A score's mean over the rows. -/
def mean (s : EReal) : EReal := s * ((10000⁻¹ : ℝ) : EReal)

/-- The softmax weight of a mean `a` beside the other mean `o`, the greater subtracted from both first. -/
def weight (a o : EReal) : EReal :=
  Ideal.div (Ideal.exp (a - max a o)) (Ideal.exp (a - max a o) + Ideal.exp (o - max a o))

/-- The rows of two convolutions combined by the weights of their scores. -/
def mix (s0 s1 r0 r1 : EReal) : EReal := weight (mean s0) (mean s1) * r0 + weight (mean s1) (mean s0) * r1

end Cert.Proof.Value

end
-- ==== Proof.Value.Consts.lean ====
/- The float constants of the two programs, as the extended reals that their patterns denote. -/
module

public import Idealize.ShloMosaic.PureOps.Ideal

@[expose] public section

noncomputable section

namespace Cert.Proof.Value

open Idealize.ShloMosaic

/-- The number of rows, 10000, which the reference divides by. -/
theorem ofBits_count : Ideal.ofBits .f32 0x461C4000#32 = ((10000 : ℝ) : EReal) := by
  simp [Ideal.ofBits, Ideal.ieee, -EReal.coe_mul]; norm_num

/-- The reference's maximum starts at minus infinity. -/
theorem ofBits_least : Ideal.ofBits .f32 0xFF800000#32 = (⊥ : EReal) := by
  simp [Ideal.ofBits, Ideal.ieee]

end Cert.Proof.Value

end
-- ==== Proof.Value.Payloads.lean ====
/- The kernel's vector computations over the extended reals, one element at a time. -/
module

public import proofs.«01_k».proof.Proof.Value.Spec
public import proofs.«01_k».proof.Proof.Value.Consts
public import proofs.«01_k».proof.Proof.Gen.KernelIdeal.Skeleton
public import Idealize.ShloMosaic.Lib.Pointwise

@[expose] public section

set_option maxRecDepth 16384

noncomputable section

namespace Cert.Proof.Value

open Cert.KernelIdeal Cert.KernelIdeal.Gen
open Idealize.ShloMosaic

/-- The first matrix's projected features. -/
theorem pay9_at (x : Vec Ideal S10000x128 .bf16) (W : Vec Ideal S1x128x32 .f32) (u : Fin 1) (n : Fin 10000) (j : Fin 32) :
    k0_pay9 x W (ix3 u n j) = feat (fun n k => x (ix2 n k)) (fun k j => W (ix3 0 k j)) n j := by
  pointwise [k0_pay9, k0_pay8, feat]

/-- The second matrix's, by the same computation. -/
theorem pay10_at (x : Vec Ideal S10000x128 .bf16) (W : Vec Ideal S1x128x32 .f32) (u : Fin 1) (n : Fin 10000) (j : Fin 32) :
    k0_pay10 x W (ix3 u n j) = feat (fun n k => x (ix2 n k)) (fun k j => W (ix3 0 k j)) n j := by
  pointwise [k0_pay10, k0_pay8, feat]

/-- A row of a block. -/
theorem pay7_at (B : Vec Ideal S1x200x10000 .f32) (h : Vec Ideal S1x10000x32 .bf16) (b : Vec Ideal S1x32 .f32) (i : Fin 200) (j : Fin 32) :
    k0_pay7 B h b (ix2 i j) = max ((∑ k : Fin 10000, B (ix3 0 i k) * h (ix3 0 k j)) + b (ix2 0 j)) 0 := by
  pointwise [k0_pay7]

/-- A block's contribution to the score. -/
theorem pay3_eq (v : FVec Ideal S200x32 .f32) (W : Vec Ideal S32x16 .f32) (b q : Vec Ideal S1x16 .f32) :
    k0_pay3 v W b q = ∑ i : Fin 200, rowScore (fun j s => W (ix2 j s)) (fun s => b (ix2 0 s)) (fun s => q (ix2 0 s)) (fun j => v (ix2 i j)) := by
  pointwise [k0_pay3, rowScore]

/-- The constant named the mean's factor. -/
theorem named_mean : Named.named (F := Ideal) Cert.KernelIdeal.κ "mean" (φ := .f32) 0x38D1B717#32 = ((10000⁻¹ : ℝ) : EReal) :=
  IdealRules.named_const.ideal_named_scalar _ _ _ _ rfl

/-- The last step: the rows of the two convolutions combined. -/
theorem pay6_at (s0 s1 : Ideal .f32) (v1 v0 : Vec Ideal S1x10000x32 .f32) (u : Fin 1) (r : Fin 10000) (j : Fin 32) :
    k0_pay6 s0 s1 v1 v0 (ix3 u r j) = mix s0 s1 (v0 (ix3 0 r j)) (v1 (ix3 0 r j)) := by
  pointwise [k0_pay6, mix, weight, mean, named_mean]
  generalize s0 * _ = a
  generalize s1 * _ = o
  rw [max_comm o a, add_comm (Ideal.exp (o - max a o))]
  exact add_comm _ _

end Cert.Proof.Value

end
-- ==== Proof.Value.Kernel.lean ====
/- What the kernel's arrays hold over the extended reals, of the operands' contents: the projected features, the rows of each
   trip, all rows, the two scores, the result. -/
module

public import proofs.«01_k».proof.Proof.Value.Payloads
public import proofs.«01_k».proof.Proof.Ideal.Body

@[expose] public section

set_option maxRecDepth 16384

noncomputable section

namespace Cert.Proof.Value

open Cert.KernelIdeal Cert.KernelIdeal.Gen Cert.Proof.KI
open Idealize.ShloMosaic Idealize.ShloMosaic.TcCoe

variable (c : Dev nD) (XA : Buf (Elt Ideal) (aM.view.loc (c : Thread nD τ))) (Xh : Buf (Elt Ideal) (hM.view.loc (c : Thread nD τ)))
  (Xx : Buf (Elt Ideal) (xM.view.loc (c : Thread nD τ))) (Xw : Buf (Elt Ideal) (wM.view.loc (c : Thread nD τ)))
  (Xb : Buf (Elt Ideal) (bM.view.loc (c : Thread nD τ)))

/-- The weight matrix loaded for path `p`. -/
theorem wAt_at (p : Fin 2) (k : Fin 128) (j : Fin 32) : wAt c Xw p (ix3 0 k j) = Xw (ix3 p k j) := by
  show Xw _ = Xw _
  congr 1
  funext a
  fin_cases a
  · exact Fin.ext (show p.val + 1 * 0 = p.val by omega)
  · exact Fin.ext (show 0 + 1 * k.val = k.val by omega)
  · exact Fin.ext (show 0 + 1 * j.val = j.val by omega)

/-- The projected features in scratch. -/
theorem hBuf_at (p : Fin 2) (n : Fin 10000) (j : Fin 32) :
    hBuf c Xx Xw (ix3 p n j) = feat (fun n k => Xx (ix2 n k)) (fun k j => Xw (ix3 p k j)) n j := by
  have hx : ∀ (o : ℕ) (q : Fin 2), q.val = o → ∀ a : Fin 3, ((ix3 q n j : S2x10000x32.Idx) a).val
      = (![o, 0, 0] : Fin 3 → ℕ) a + ((ix3 0 n j : S1x10000x32.Idx) a).val := by
    intro o q e a
    fin_cases a
    · exact e
    · exact (Nat.zero_add _).symm
    · exact (Nat.zero_add _).symm
  have read : ∀ g : Buf (Elt Ideal) (hM.view.loc (c : Thread nD τ)), hM.view.read (Elt Ideal) g = g := fun _ => rfl
  refine (congrFun (read (hBuf c Xx Xw)) (ix3 p n j)).symm.trans ?_
  unfold hBuf hPieces
  by_cases hp : p = 0
  · subst hp
    refine (View.read_writes_cons_unit_of_not_mem hM.view hM.view.junk _ _ _ (ix3 0 n j : S2x10000x32.Idx) rfl 0 (Or.inl Nat.zero_lt_one)).trans ?_
    refine (View.read_writes_cons_unit_of_mem hM.view hM.view.junk _ _ _ (ix3 0 n j : S2x10000x32.Idx) (ix3 0 n j : S1x10000x32.Idx) rfl (hx 0 0 rfl)).trans ?_
    rw [pay9_at]
    simp only [wAt_at]
    rfl
  · obtain rfl : p = 1 := by omega
    refine (View.read_writes_cons_unit_of_mem hM.view hM.view.junk _ _ _ (ix3 1 n j : S2x10000x32.Idx) (ix3 0 n j : S1x10000x32.Idx) rfl (hx 1 1 rfl)).trans ?_
    rw [pay10_at]
    simp only [wAt_at]
    rfl

/-- The block, the features and the bias row that trip `k` works on, where it belongs to path `p`. -/
theorem blkV_at (k : Fin 100) (p : Fin 2) (r : Fin 10000) (i : Fin 200) (n : Fin 10000) (hp : k.val / 50 = p.val) (hr : r.val = 200 * (k.val % 50) + i.val) :
    blkV c XA k (ix3 0 i n) = XA (ix3 p r n) := by
  show XA _ = XA _
  congr 1
  funext a
  fin_cases a
  · exact Fin.ext (show k.val / 50 + 1 * 0 = p.val by omega)
  · exact Fin.ext (show 200 * (k.val % 50) + 1 * i.val = r.val by omega)
  · exact Fin.ext (show 0 + 1 * n.val = n.val by omega)
theorem hV_at (k : Fin k0_t1_loop.trips) (p : Fin 2) (n : Fin 10000) (j : Fin 32) (hp : k.val / 50 = p.val) : hV c Xh k (ix3 0 n j) = Xh (ix3 p n j) := by
  show Xh _ = Xh _
  congr 1
  have e := k0_off9_eq k
  funext a
  fin_cases a
  · exact Fin.ext (show k0_off9 k 0 + 1 * 0 = p.val by rw [e]; exact hp)
  · exact Fin.ext (show k0_off9 k 1 + 1 * n.val = n.val by rw [e]; show 0 + 1 * n.val = n.val; omega)
  · exact Fin.ext (show k0_off9 k 2 + 1 * j.val = j.val by rw [e]; show 0 + 1 * j.val = j.val; omega)
theorem bV_at (k : Fin k0_t1_loop.trips) (p : Fin 2) (j : Fin 32) (hp : k.val / 50 = p.val) : bV c Xb k (ix2 0 j) = Xb (ix2 p j) := by
  show Xb _ = Xb _
  congr 1
  have e := k0_off10_eq k
  funext a
  fin_cases a
  · exact Fin.ext (show k0_off10 k 0 + 1 * 0 = p.val by rw [e]; exact hp)
  · exact Fin.ext (show k0_off10 k 1 + 1 * j.val = j.val by rw [e]; show 0 + 1 * j.val = j.val; omega)

/-- Row `r` of path `p`. -/
def pathRow (p : Fin 2) : Fin 10000 → Fin 32 → EReal :=
  row (fun r k => XA (ix3 p r k)) (fun n j => Xh (ix3 p n j)) (fun j => Xb (ix2 p j))

/-- Row `i` of trip `k` is row `200 (k % 50) + i` of path `k / 50`. -/
theorem rowsV_at (k : Fin k0_t1_loop.trips) (p : Fin 2) (r : Fin 10000) (i : Fin 200) (j : Fin 32) (hp : k.val / 50 = p.val) (hr : r.val = 200 * (k.val % 50) + i.val) :
    rowsV c XA Xh Xb k (ix2 i j) = pathRow c XA Xh Xb p r j := by
  unfold rowsV
  rw [pay7_at, bV_at c Xb k p j hp]
  have hk := trip_lt k
  have e : ∀ n, blkV c XA (Ring.bk 100 k.val) (ix3 0 i n) = XA (ix3 p r n) := fun n =>
    blkV_at c XA _ p r i n (by rw [Ring.bk_val hk]; exact hp) (by rw [Ring.bk_val hk]; exact hr)
  simp only [e, hV_at c Xh k p _ j hp]
  rfl

/-- All rows of path `p`. -/
theorem allRows_at (p : Fin 2) (r : Fin 10000) (j : Fin 32) : allRows c XA Xh Xb p.val (ix3 0 r j) = pathRow c XA Xh Xb p r j := by
  have hp := p.isLt
  have hr := r.isLt
  show rowsV c XA Xh Xb (tk (50 * p.val + r.val / 200)) (ValueIdx.ix2 (⟨r.val % 200, _⟩ : Fin 200) j) = _
  rw [← ix2_eq_valueIdx]
  have hk : (tk (50 * p.val + r.val / 200)).val = 50 * p.val + r.val / 200 := Nat.mod_eq_of_lt (by omega)
  exact rowsV_at c XA Xh Xb _ p r _ j (by rw [hk]; omega) (by rw [hk]; show r.val = 200 * ((50 * p.val + r.val / 200) % 50) + r.val % 200; omega)

section Scores
variable (W2 : Vec Ideal S32x16 .f32) (B2 Q2 : Vec Ideal S1x16 .f32)

/-- What trip `k` adds to its path's score. -/
def tripScore (k : ℕ) : EReal := k0_pay3 (rowsV c XA Xh Xb (tk k)) W2 B2 Q2

/-- The path a trip belongs to, as the kernel counts it. -/
theorem pathV_eq : ∀ k : Fin k0_t1_loop.trips, pathV k = BitVec.ofNat 32 (k.val / 50) := by decide +kernel

/-- Before trip `n` the first sum is over the first path's trips so far, and the second over the second's. -/
theorem sums_eq (n : ℕ) (hn : n ≤ 100) : sums c XA Xh Xb W2 B2 Q2 n
    = (∑ k ∈ Finset.range n, if k < 50 then tripScore c XA Xh Xb W2 B2 Q2 k else 0,
       ∑ k ∈ Finset.range n, if k < 50 then 0 else tripScore c XA Xh Xb W2 B2 Q2 k) := by
  induction n with
  | zero =>
    show (Ideal.ofBits .f32 0x00000000#32, Ideal.ofBits .f32 0x00000000#32) = _
    rw [Ideal.ofBits_zero_f32]
    rfl
  | succ n ih =>
    have hk : (tk n).val = n := Nat.mod_eq_of_lt (by omega)
    rw [Finset.sum_range_succ, Finset.sum_range_succ]
    show (k0_pay4 _ _ _ _ _ _, k0_pay5 _ _ _ _ _ _) = _
    rw [ih (by omega), pathV_eq, hk]
    have h0 : (Scalar.ofBits (F := Ideal) .f32 0x00000000#32 : EReal) = 0 := Ideal.ofBits_zero_f32
    refine Prod.ext (congrArg (_ + ·) ?_) (congrArg (_ + ·) ?_)
    · show Scalar.select _ (tripScore c XA Xh Xb W2 B2 Q2 n) _ = _
      by_cases h : n < 50
      · rw [Nat.div_eq_of_lt h, if_pos h]; rfl
      · rw [show n / 50 = 1 by omega, if_neg h]; exact h0
    · show Scalar.select _ (tripScore c XA Xh Xb W2 B2 Q2 n) _ = _
      by_cases h : n < 50
      · rw [Nat.div_eq_of_lt h, if_pos h]; exact h0
      · rw [show n / 50 = 1 by omega, if_neg h]; rfl

/-- A path's 50 trips make its score. -/
theorem trips_score (p : Fin 2) : ∑ k ∈ Finset.range 50, tripScore c XA Xh Xb W2 B2 Q2 (50 * p.val + k)
    = score (fun j s => W2 (ix2 j s)) (fun s => B2 (ix2 0 s)) (fun s => Q2 (ix2 0 s)) (pathRow c XA Xh Xb p) := by
  have hp := p.isLt
  unfold score
  rw [Finset.sum_range, Fin.sum_univ_tiles 50 200 rfl]
  refine Finset.sum_congr rfl fun k _ => ?_
  have hk := k.isLt
  have e : (tk (50 * p.val + k.val)).val = 50 * p.val + k.val := Nat.mod_eq_of_lt (by omega)
  unfold tripScore
  rw [pay3_eq]
  refine Finset.sum_congr rfl fun i _ => ?_
  refine congrArg _ (funext fun j => ?_)
  exact rowsV_at c XA Xh Xb _ p _ i j (by rw [e]; omega) (by rw [e]; show k.val * 200 + i.val = _; omega)

/-- Of 100 terms, those before the fiftieth and those from it on. -/
theorem sum_halves (f : ℕ → EReal) : (∑ k ∈ Finset.range 100, if k < 50 then f k else 0) = ∑ k ∈ Finset.range 50, f (50 * 0 + k)
    ∧ (∑ k ∈ Finset.range 100, if k < 50 then 0 else f k) = ∑ k ∈ Finset.range 50, f (50 * 1 + k) := by
  have lo : ∀ k ∈ Finset.range 50, k < 50 := fun k h => Finset.mem_range.1 h
  have hi : ∀ k : ℕ, ¬ 50 + k < 50 := fun k => by omega
  rw [show (100 : ℕ) = 50 + 50 from rfl, Finset.sum_range_add, Finset.sum_range_add]
  constructor
  · rw [Finset.sum_congr rfl fun k h => if_pos (lo k h), Finset.sum_congr (g := fun _ => 0) rfl fun k _ => if_neg (hi k), Finset.sum_const_zero, add_zero]
    simp only [Nat.mul_zero, Nat.zero_add]
  · rw [Finset.sum_congr (g := fun _ => 0) rfl fun k h => if_pos (lo k h), Finset.sum_congr rfl fun k _ => if_neg (hi k), Finset.sum_const_zero, zero_add]

/-- After the last trip the two sums are the two paths' scores. -/
theorem sums_all : sums c XA Xh Xb W2 B2 Q2 100
    = (score (fun j s => W2 (ix2 j s)) (fun s => B2 (ix2 0 s)) (fun s => Q2 (ix2 0 s)) (pathRow c XA Xh Xb 0),
       score (fun j s => W2 (ix2 j s)) (fun s => B2 (ix2 0 s)) (fun s => Q2 (ix2 0 s)) (pathRow c XA Xh Xb 1)) := by
  have h := sum_halves (tripScore c XA Xh Xb W2 B2 Q2)
  exact (sums_eq c XA Xh Xb W2 B2 Q2 100 (le_refl _)).trans (congrArg₂ Prod.mk
    (h.1.trans (trips_score c XA Xh Xb W2 B2 Q2 0)) (h.2.trans (trips_score c XA Xh Xb W2 B2 Q2 1)))

end Scores

/-- The result, at an index. -/
theorem resV_at (X2 : Buf (Elt Ideal) (w2M.view.loc (c : Thread nD τ))) (Y2 : Buf (Elt Ideal) (b2M.view.loc (c : Thread nD τ)))
    (Z2 : Buf (Elt Ideal) (qM.view.loc (c : Thread nD τ))) (u : Fin 1) (r : Fin 10000) (j : Fin 32) :
    resV c XA Xx Xw Xb X2 Y2 Z2 (ix3 u r j)
      = (let v := fun p : Fin 2 => row (fun r k => XA (ix3 p r k)) (feat (fun n k => Xx (ix2 n k)) (fun k j => Xw (ix3 p k j))) (fun j => Xb (ix2 p j))
         let s := fun p : Fin 2 => score (fun j s => X2 (ix2 j s)) (fun s => Y2 (ix2 0 s)) (fun s => Z2 (ix2 0 s)) (v p)
         mix (s 0) (s 1) (v 0 r j) (v 1 r j)) := by
  have e : ∀ p, pathRow c XA (hBuf c Xx Xw) Xb p
      = row (fun r k => XA (ix3 p r k)) (feat (fun n k => Xx (ix2 n k)) (fun k j => Xw (ix3 p k j))) (fun j => Xb (ix2 p j)) := fun p => by
    unfold pathRow
    exact congrArg (fun h => row _ h _) (funext fun n => funext fun j => hBuf_at c Xx Xw p n j)
  unfold resV
  rw [pay6_at, sums_all]
  have a0 := allRows_at c XA (hBuf c Xx Xw) Xb 0 r j
  have a1 := allRows_at c XA (hBuf c Xx Xw) Xb 1 r j
  rw [e] at a0 a1
  rw [e, e]
  exact congrArg₂ (mix _ _) a0 a1

end Cert.Proof.Value

end
-- ==== Proof.Value.Reference.lean ====
/- What the reference computes over the extended reals, one element at a time: its composed term is cut at the arrays that
   have a meaning of their own. -/
module

public import proofs.«01_k».proof.Proof.Value.Spec
public import proofs.«01_k».proof.Proof.Value.Consts
public import proofs.«01_k».proof.Proof.Gen.ReferenceIdeal.Run
public import Idealize.ShloMosaic.Lib.Pointwise

@[expose] public section

set_option maxRecDepth 16384

noncomputable section

namespace Cert.Proof.Value

open Cert.ReferenceIdeal Cert.ReferenceIdeal.Gen Cert.ReferenceIdeal.Value
open Idealize.ShloMosaic Idealize.ShloMosaic.TcCoe

variable (x : FVec Ideal S10000x128 .f32) (A : FVec Ideal S2x10000x10000 .f32) (W : FVec Ideal S2x128x32 .f32) (b : FVec Ideal S2x32 .f32)
  (W2 : FVec Ideal S32x16 .f32) (b2 q : FVec Ideal S1x16 .f32)

/-- The first convolution. -/
def first : FVec Ideal S10000x32 .f32 :=
  maximumf (addf (Host.dotGeneral dot_S10000x10000_S10000x32_S10000x32_1_0_0_1_n_n none
      (shapeCast _ (extractStridedSlice S1x10000x10000 ![0, 0, 0] A slices_S2x10000x10000_S1x10000x10000_0_0_0) shapeCasts_S1x10000x10000_S10000x10000)
      (Host.dotGeneral dot_S10000x128_S128x32_S10000x32_1_0_0_1_n_n none x
        (shapeCast _ (extractStridedSlice S1x128x32 ![0, 0, 0] W slices_S2x128x32_S1x128x32_0_0_0) shapeCasts_S1x128x32_S128x32)))
    (broadcastInDim S10000x32 ![0, 1] bcast_S1x32_S10000x32_0_1 (broadcastInDim S1x32 ![1] bcast_S32_S1x32_1
      (shapeCast _ (extractStridedSlice S1x32 ![0, 0] b slices_S2x32_S1x32_0_0) shapeCasts_S1x32_S32))))
    (broadcastInDim S10000x32 ![] bcast_S_S10000x32 (constant S_ .f32 0x00000000#32))

/-- The second. -/
def second : FVec Ideal S10000x32 .f32 :=
  maximumf (addf (Host.dotGeneral dot_S10000x10000_S10000x32_S10000x32_1_0_0_1_n_n none
      (shapeCast _ (extractStridedSlice S1x10000x10000 ![1, 0, 0] A slices_S2x10000x10000_S1x10000x10000_1_0_0) shapeCasts_S1x10000x10000_S10000x10000)
      (Host.dotGeneral dot_S10000x128_S128x32_S10000x32_1_0_0_1_n_n none x
        (shapeCast _ (extractStridedSlice S1x128x32 ![1, 0, 0] W slices_S2x128x32_S1x128x32_1_0_0) shapeCasts_S1x128x32_S128x32)))
    (broadcastInDim S10000x32 ![0, 1] bcast_S1x32_S10000x32_0_1 (broadcastInDim S1x32 ![1] bcast_S32_S1x32_1
      (shapeCast _ (extractStridedSlice S1x32 ![1, 0] b slices_S2x32_S1x32_1_0) shapeCasts_S1x32_S32))))
    (broadcastInDim S10000x32 ![] bcast_S_S10000x32 (constant S_ .f32 0x00000000#32))

/-- The two one after the other. -/
def both (v0 v1 : FVec Ideal S10000x32 .f32) : FVec Ideal S20000x32 .f32 :=
  concatenate S20000x32 0 [⟨S10000x32, v0⟩, ⟨S10000x32, v1⟩] concatenates_S10000x32_S10000x32_S20000x32_d0

/-- The two scores' means. -/
def means (v : FVec Ideal S20000x32 .f32) : FVec Ideal S2x1 .f32 :=
  Host.divf (broadcastInDim S2x1 ![0] bcast_S2_S2x1_0 (Host.reduceAdd (shapeCast _ (Host.dotGeneral dot_S20000x16_S16x1_S20000x1_1_0_0_1_n_n none
      (Host.tanh (addf (Host.dotGeneral dot_S20000x32_S32x16_S20000x16_1_0_0_1_n_n none v W2) (broadcastInDim S20000x16 ![0, 1] bcast_S1x16_S20000x16_0_1 b2)))
      (transpose S16x1 [1, 0] q transposes_S1x16_S16x1_1_0)) shapeCasts_S20000x1_S2x10000) (constant S_ .f32 0x00000000#32) reducesTo_S2x10000_S2_d1 h_S_))
    (broadcastInDim S2x1 ![] bcast_S_S2x1 (constant S_ .f32 0x461C4000#32))

/-- The means' exponentials, the greatest mean subtracted first. -/
def powers (a : FVec Ideal S2x1 .f32) : FVec Ideal S2x1 .f32 :=
  Host.exp (subf a (broadcastInDim S2x1 ![0, 1] bcast_S1x1_S2x1_0_1 (broadcastInDim S1x1 ![1] bcast_S1_S1x1_1
    (maximumf (broadcastInDim S1 ![] bcast_S_S1 (constant S_ .f32 0xFF800000#32))
      (Host.reduce FloatOps.maximumf a (constant S_ .f32 0xFF800000#32) reducesTo_S2x1_S1_d0 h_S_)))))

/-- Each divided by their sum. -/
def weights (e : FVec Ideal S2x1 .f32) : FVec Ideal S2x1 .f32 :=
  Host.divf e (broadcastInDim S2x1 ![0, 1] bcast_S1x1_S2x1_0_1 (broadcastInDim S1x1 ![1] bcast_S1_S1x1_1
    (Host.reduceAdd e (constant S_ .f32 0x00000000#32) reducesTo_S2x1_S1_d0 h_S_)))

/-- The rows of the two convolutions combined. -/
def combined (v : FVec Ideal S20000x32 .f32) (w : FVec Ideal S2x1 .f32) : FVec Ideal S1x10000x32 .f32 :=
  broadcastInDim S1x10000x32 ![1, 2] bcast_S10000x32_S1x10000x32_1_2
    (Host.reduceAdd (mulf (shapeCast _ v shapeCasts_S20000x32_S2x10000x32)
      (broadcastInDim S2x10000x32 ![0, 1, 2] bcast_S2x1x1_S2x10000x32_0_1_2 (shapeCast _ w shapeCasts_S2x1_S2x1x1)))
      (constant S_ .f32 0x00000000#32) reducesTo_S2x10000x32_S10000x32_d0 h_S_)

/-- The reference's term is these arrays composed. -/
theorem reference_eq (m : (ℓ : Loc nD τ sig) → Buf (Elt Ideal) ℓ) (c : Dev nD) :
    res_main_v52 m c
      = (let v := both
          (first (m ((c.tc : Thread nD τ).loc main_arg0)) (m ((c.tc : Thread nD τ).loc main_arg1)) (m ((c.tc : Thread nD τ).loc main_arg3)) (m ((c.tc : Thread nD τ).loc main_arg4)))
          (second (m ((c.tc : Thread nD τ).loc main_arg0)) (m ((c.tc : Thread nD τ).loc main_arg1)) (m ((c.tc : Thread nD τ).loc main_arg3)) (m ((c.tc : Thread nD τ).loc main_arg4)))
        combined v (weights (powers (means (m ((c.tc : Thread nD τ).loc main_arg5)) (m ((c.tc : Thread nD τ).loc main_arg6)) (m ((c.tc : Thread nD τ).loc main_arg7)) v)))) := rfl

/-- A row of the first convolution. -/
theorem first_at (r : Fin 10000) (j : Fin 32) : first x A W b (ix2 r j)
    = row (fun r k => A (ix3 0 r k)) (feat (fun n k => x (ix2 n k)) (fun k j => W (ix3 0 k j))) (fun j => b (ix2 0 j)) r j := by
  pointwise [first, row, feat]

/-- A row of the second. -/
theorem second_at (r : Fin 10000) (j : Fin 32) : second x A W b (ix2 r j)
    = row (fun r k => A (ix3 1 r k)) (feat (fun n k => x (ix2 n k)) (fun k j => W (ix3 1 k j))) (fun j => b (ix2 1 j)) r j := by
  pointwise [second, row, feat]

/-- The first array's rows come first, -/
theorem both_first (v0 v1 : FVec Ideal S10000x32 .f32) (i : Fin 20000) (r : Fin 10000) (j : Fin 32) (h : i.val = r.val) :
    both v0 v1 (ix2 i j) = v0 (ix2 r j) := by
  pointwise [both]
  rw [dif_pos (by omega)]
  exact congrArg (fun a => v0 (ix2 a j)) (Fin.ext h)

/-- then the second's. -/
theorem both_second (v0 v1 : FVec Ideal S10000x32 .f32) (i : Fin 20000) (r : Fin 10000) (j : Fin 32) (h : i.val = 10000 + r.val) :
    both v0 v1 (ix2 i j) = v1 (ix2 r j) := by
  pointwise [both]
  rw [dif_neg (by omega)]
  exact congrArg (fun a => v1 (ix2 a j)) (Fin.ext (by show i.val - 10000 = r.val; omega))

/-- Row `r` of convolution `p` among the rows of both. -/
def at2 (p : Fin 2) (r : Fin 10000) : Fin 20000 := ⟨p.val * 10000 + r.val, by omega⟩

/-- The mean of a convolution's score. -/
theorem means_at (v : FVec Ideal S20000x32 .f32) (p : Fin 2) : means W2 b2 q v (ix2 p 0)
    = mean (score (fun j s => W2 (ix2 j s)) (fun s => b2 (ix2 0 s)) (fun s => q (ix2 0 s)) (fun r j => v (ix2 (at2 p r) j))) := by
  pointwise [means, mean, score, rowScore]
  rw [ofBits_count, Ideal.div_coe (by norm_num), one_div]
  rfl

/-- A maximum over two, begun at minus infinity. -/
theorem greatest (f : Fin 2 → EReal) : max ⊥ (Finset.fold max ⊥ f Finset.univ) = max (f 0) (f 1) := by
  have h : (Finset.univ : Finset (Fin 2)) = {0, 1} := rfl
  rw [h, Finset.fold_insert (by decide), Finset.fold_singleton, max_bot_right, max_bot_left]

/-- The two weights. -/
theorem weights_at (a : FVec Ideal S2x1 .f32) :
    weights (powers a) (ix2 0 0) = weight (a (ix2 0 0)) (a (ix2 1 0)) ∧ weights (powers a) (ix2 1 0) = weight (a (ix2 1 0)) (a (ix2 0 0)) := by
  constructor
  · pointwise [weights, powers, weight]
    rw [ofBits_least, greatest, Fin.sum_univ_two]
  · pointwise [weights, powers, weight]
    rw [ofBits_least, greatest, Fin.sum_univ_two, max_comm (a (ix2 0 0)), add_comm (Ideal.exp (a (ix2 0 0) - _))]

/-- An element of the result. -/
theorem combined_at (v : FVec Ideal S20000x32 .f32) (w : FVec Ideal S2x1 .f32) (u : Fin 1) (r : Fin 10000) (j : Fin 32) :
    combined v w (ix3 u r j) = w (ix2 0 0) * v (ix2 (at2 0 r) j) + w (ix2 1 0) * v (ix2 (at2 1 r) j) := by
  pointwise [combined]
  rw [Fin.sum_univ_two, mul_comm (w (ix2 0 0)), mul_comm (w (ix2 1 0))]
  rfl

end Cert.Proof.Value

end
-- ==== Proof.Value.Equation.lean ====
/- The kernel's result and the reference's are the same array of the arguments, over the extended reals. -/
module

public import proofs.«01_k».proof.Proof.Value.Kernel
public import proofs.«01_k».proof.Proof.Value.Reference
public import proofs.«01_k».proof.Proof.Ideal.Launch
public import proofs.«01_k».proof.Defs
public import proofs.«01_k».proof.Proof.Gen.ReferenceIdeal

@[expose] public section

set_option maxRecDepth 16384

noncomputable section

namespace Cert.Proof.Value

open Idealize.ShloMosaic Idealize.ShloMosaic.TcCoe

/-- What both programs compute, at an index, of the features, the matrices, the weights and biases, and the score's
    parameters. -/
def result (x : FVec Ideal ⟨2, ![10000, 128]⟩ .f32) (A : FVec Ideal ⟨3, ![2, 10000, 10000]⟩ .f32) (W : FVec Ideal ⟨3, ![2, 128, 32]⟩ .f32)
    (b : FVec Ideal ⟨2, ![2, 32]⟩ .f32) (W2 : FVec Ideal ⟨2, ![32, 16]⟩ .f32) (b2 q : FVec Ideal ⟨2, ![1, 16]⟩ .f32)
    (r : Fin 10000) (j : Fin 32) : EReal :=
  let v := fun p : Fin 2 => row (fun r k => A (ix3 p r k)) (feat (fun n k => x (ix2 n k)) (fun k j => W (ix3 p k j))) (fun j => b (ix2 p j))
  let s := fun p : Fin 2 => score (fun j s => W2 (ix2 j s)) (fun s => b2 (ix2 0 s)) (fun s => q (ix2 0 s)) (v p)
  mix (s 0) (s 1) (v 0 r j) (v 1 r j)

section Kernel
open Cert.KernelIdeal Cert.KernelIdeal.Gen Cert.Proof.KI

variable (m : (ℓ : Loc nD τ sig) → Buf (Elt Ideal) ℓ) (c : Dev nD)

/-- The staged features are the argument's: over the extended reals the narrowing changes nothing. -/
theorem V_main_v0 : V m c main_v0 = (fun i => m ((c : Thread nD τ).loc main_arg0) i) := by
  rfl

/-- A block as large as its array, at block index zero, is the array. -/
theorem whole (b : Ref sig .tc) (inb : ∀ a, 0 * b.ty.shape.size a + b.ty.shape.size a ≤ b.ty.shape.size a) (f : b.ty.Contents (Elt Ideal)) :
    ((Memref.whole b).access (Rect.unit (fun a => 0 * b.ty.shape.size a) b.ty.shape.size inb)).read (Elt Ideal) f = f :=
  Memref.read_access_unit_zero (Elt Ideal) b (funext fun _ => Nat.zero_mul _) inb f

/-- The kernel's result, at an index. -/
theorem kernel_at (u : Fin 1) (r : Fin 10000) (j : Fin 32) :
    outV m c t0_0 (ix3 u r j) = result (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) r j := by
  have e0 : iblk m c 0 t0_0 = _ := (whole main_v0 _ _).trans (V_main_v0 m c)
  have e1 : iblk m c 1 t0_0 = _ := (whole main_arg3 _ _).trans (V_main_arg3 m c)
  have e2 : iblk m c 2 t0_0 = _ := (whole main_arg4 _ _).trans (V_main_arg4 m c)
  have e3 : iblk m c 3 t0_0 = _ := (whole main_arg5 _ _).trans (V_main_arg5 m c)
  have e4 : iblk m c 4 t0_0 = _ := (whole main_arg6 _ _).trans (V_main_arg6 m c)
  have e5 : iblk m c 5 t0_0 = _ := (whole main_arg7 _ _).trans (V_main_arg7 m c)
  unfold outV
  rw [e0, e1, e2, e3, e4, e5, V_main_arg1]
  exact resV_at c _ _ _ _ _ _ _ u r j

end Kernel

section Reference
open Cert.ReferenceIdeal Cert.ReferenceIdeal.Gen Cert.ReferenceIdeal.Value

/-- The reference's result, at an index. -/
theorem reference_at (m : (ℓ : Loc nD τ sig) → Buf (Elt Ideal) ℓ) (c : Dev nD) (u : Fin 1) (r : Fin 10000) (j : Fin 32) :
    res_main_v52 m c (ix3 u r j) = result (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) r j := by
  rw [reference_eq]
  generalize m ((c.tc : Thread nD τ).loc main_arg0) = x
  generalize m ((c.tc : Thread nD τ).loc main_arg1) = A
  generalize m ((c.tc : Thread nD τ).loc main_arg3) = W
  generalize m ((c.tc : Thread nD τ).loc main_arg4) = b
  generalize m ((c.tc : Thread nD τ).loc main_arg5) = W2
  generalize m ((c.tc : Thread nD τ).loc main_arg6) = b2
  generalize m ((c.tc : Thread nD τ).loc main_arg7) = q
  have h0 : ∀ r j, both (first x A W b) (second x A W b) (ix2 (at2 0 r) j) = _ := fun r j =>
    (both_first _ _ (at2 0 r) r j (by show 0 * 10000 + r.val = r.val; omega)).trans (first_at x A W b r j)
  have h1 : ∀ r j, both (first x A W b) (second x A W b) (ix2 (at2 1 r) j) = _ := fun r j =>
    (both_second _ _ (at2 1 r) r j (by show 1 * 10000 + r.val = 10000 + r.val; omega)).trans (second_at x A W b r j)
  show combined (both (first x A W b) (second x A W b)) _ _ = _
  rw [combined_at, (weights_at _).1, (weights_at _).2, means_at, means_at]
  simp only [h0, h1]
  rfl

end Reference

/-- From memories that agree on the arguments, both programs end with the same result. -/
theorem algebraic : Cert.algebraic_KernelIdeal_ReferenceIdeal := by
  intro m g m' g' _ h
  refine ⟨fun c => Cert.Proof.KI.outV m c Cert.KernelIdeal.Gen.t0_0, (θ_run Cert.KernelIdeal.defs _ _).mono (fun _ k => k.1) (Cert.Proof.KI.run_value m g),
    (θ_run Cert.ReferenceIdeal.defs _ _).mono (fun _ k c => ⟨(k c).1.trans ?_, (k c).2⟩) (Cert.ReferenceIdeal.Value.run (F := Ideal) m' g')⟩
  obtain ⟨h0, h1, _, h3, h4, h5, h6, h7⟩ := h c
  funext i
  obtain ⟨u, r, j, rfl⟩ : ∃ (u : Fin 1) (r : Fin 10000) (j : Fin 32), i = ix3 u r j :=
    ⟨i 0, i 1, i 2, (ValueIdx.eq_ix3 i).trans (ix3_eq_valueIdx _ _ _).symm⟩
  refine (reference_at m' c u r j).trans ?_
  rw [h0, h1, h3, h4, h5, h6, h7]
  exact (kernel_at m c u r j).symm

end Cert.Proof.Value

end
-- ==== Proof.lean ====
module

public import proofs.«01_k».proof.Defs
public import proofs.«01_k».proof.Proof.Launch
public import proofs.«01_k».proof.Proof.Ideal.Launch
public import proofs.«01_k».proof.Proof.Value.Equation
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Every run of the kernel ends, with its arguments as they were and its semaphores at zero. -/
theorem frame_kernel : Cert.quiescent_Kernel := fun m ρ _ =>
  (θ_run Cert.Kernel.defs _ _).mono (fun _ h => ⟨fun c => (h.1 c).2, h.2⟩) (K.run_value m ρ)

/-- So does every run of the kernel with its constant named. -/
theorem frame_kernelIdeal : Cert.quiescent_KernelIdeal := fun m ρ _ =>
  (θ_run Cert.KernelIdeal.defs _ _).mono (fun _ h => ⟨fun c => (h.1 c).2, h.2⟩) (KI.run_value m ρ)

/-- The reference has no semaphores and writes none of its arguments. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The constant named `"mean"` is the table's `1/10000`. -/
theorem preserves_kernel : Cert.preserves_Kernel_KernelIdeal :=
  IdealRules.named_const.statement Cert.KernelIdeal.κ "mean" .f32 0x38D1B717#32 ((10000⁻¹ : ℝ) : EReal) rfl

theorem claim : Cert.Claim :=
  ⟨Cert.Kernel.Gen.facts, Cert.KernelIdeal.Gen.facts, Cert.ReferenceIdeal.Gen.facts,
    frame_kernel, frame_kernelIdeal, frame_referenceIdeal, preserves_kernel, Value.algebraic⟩

end Cert.Proof

end
